-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x64x224x224 : Shape := ⟨4, ![16, 64, 224, 224]⟩
abbrev S128x64x3x3 : Shape := ⟨4, ![128, 64, 3, 3]⟩
abbrev S128x128x3x3 : Shape := ⟨4, ![128, 128, 3, 3]⟩
abbrev S64x128x3x3 : Shape := ⟨4, ![64, 128, 3, 3]⟩
abbrev S128x3x3x64 : Shape := ⟨4, ![128, 3, 3, 64]⟩
abbrev S128x576 : Shape := ⟨2, ![128, 576]⟩
abbrev S128x3x3x128 : Shape := ⟨4, ![128, 3, 3, 128]⟩
abbrev S128x1152 : Shape := ⟨2, ![128, 1152]⟩
abbrev S64x3x3x128 : Shape := ⟨4, ![64, 3, 3, 128]⟩
abbrev S64x1152 : Shape := ⟨2, ![64, 1152]⟩
abbrev S1x64x224x224 : Shape := ⟨4, ![1, 64, 224, 224]⟩
abbrev S1x64x32x224 : Shape := ⟨4, ![1, 64, 32, 224]⟩
abbrev S38x192x226 : Shape := ⟨3, ![38, 192, 226]⟩
abbrev S36x384x226 : Shape := ⟨3, ![36, 384, 226]⟩
abbrev S34x384x226 : Shape := ⟨3, ![34, 384, 226]⟩
abbrev S1x226 : Shape := ⟨2, ![1, 226]⟩
abbrev S64x1 : Shape := ⟨2, ![64, 1]⟩
abbrev S1x64x1x224 : Shape := ⟨4, ![1, 64, 1, 224]⟩
abbrev S64x224 : Shape := ⟨2, ![64, 224]⟩
abbrev S64x226 : Shape := ⟨2, ![64, 226]⟩
abbrev S64x225 : Shape := ⟨2, ![64, 225]⟩
abbrev S192x226 : Shape := ⟨2, ![192, 226]⟩
abbrev S1x192x226 : Shape := ⟨3, ![1, 192, 226]⟩
abbrev S3x192x226 : Shape := ⟨3, ![3, 192, 226]⟩
abbrev S576x226 : Shape := ⟨2, ![576, 226]⟩
abbrev S128x226 : Shape := ⟨2, ![128, 226]⟩
abbrev S128x1 : Shape := ⟨2, ![128, 1]⟩
abbrev S128x225 : Shape := ⟨2, ![128, 225]⟩
abbrev S384x226 : Shape := ⟨2, ![384, 226]⟩
abbrev S1x384x226 : Shape := ⟨3, ![1, 384, 226]⟩
abbrev S3x384x226 : Shape := ⟨3, ![3, 384, 226]⟩
abbrev S1152x226 : Shape := ⟨2, ![1152, 226]⟩

abbrev nBuf : Space → Nat
  | .hbm => 14
  | .vmem => 10
  | .smem => 0
  | _ => 0

abbrev bufTy : (tb : Table) → Fin (tcTables nBuf tb) → BufTy
  | .hbm, ⟨0, _⟩ => ⟨S16x64x224x224, .f32⟩
  | .hbm, ⟨1, _⟩ => ⟨S128x64x3x3, .f32⟩
  | .hbm, ⟨2, _⟩ => ⟨S128x128x3x3, .f32⟩
  | .hbm, ⟨3, _⟩ => ⟨S64x128x3x3, .f32⟩
  | .hbm, ⟨4, _⟩ => ⟨S128x3x3x64, .f32⟩
  | .hbm, ⟨5, _⟩ => ⟨S128x576, .f32⟩
  | .hbm, ⟨6, _⟩ => ⟨S128x576, .bf16⟩
  | .hbm, ⟨7, _⟩ => ⟨S128x3x3x128, .f32⟩
  | .hbm, ⟨8, _⟩ => ⟨S128x1152, .f32⟩
  | .hbm, ⟨9, _⟩ => ⟨S128x1152, .bf16⟩
  | .hbm, ⟨10, _⟩ => ⟨S64x3x3x128, .f32⟩
  | .hbm, ⟨11, _⟩ => ⟨S64x1152, .f32⟩
  | .hbm, ⟨12, _⟩ => ⟨S64x1152, .bf16⟩
  | .hbm, ⟨13, _⟩ => ⟨S16x64x224x224, .f32⟩
  | .local _ .vmem, ⟨0, _⟩ => ⟨S1x64x224x224, .f32⟩
  | .local _ .vmem, ⟨1, _⟩ => ⟨S1x64x224x224, .f32⟩
  | .local _ .vmem, ⟨2, _⟩ => ⟨S128x576, .bf16⟩
  | .local _ .vmem, ⟨3, _⟩ => ⟨S128x1152, .bf16⟩
  | .local _ .vmem, ⟨4, _⟩ => ⟨S64x1152, .bf16⟩
  | .local _ .vmem, ⟨5, _⟩ => ⟨S1x64x32x224, .f32⟩
  | .local _ .vmem, ⟨6, _⟩ => ⟨S1x64x32x224, .f32⟩
  | .local _ .vmem, ⟨7, _⟩ => ⟨S38x192x226, .bf16⟩
  | .local _ .vmem, ⟨8, _⟩ => ⟨S36x384x226, .bf16⟩
  | .local _ .vmem, ⟨9, _⟩ => ⟨S34x384x226, .bf16⟩
  | _, _ => ⟨S16x64x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![16, 7], ![false, false]⟩

def k0_off1 (i : grid0.Coords) (c0_i32 : BitVec 32) : Fin 4 → Nat :=
  let c0 : Index := 0#32
  let c0_1 : Index := 0#32
  let c223_i32 : BitVec 32 := 223#32
  let c0_i32_0 : BitVec 32 := 0#32
  let arg1 : BitVec 32 := BitVec.ofNat 32 (i 1).val
  let c32_i32 : BitVec 32 := 32#32
  let v0 : BitVec 32 := Scalar.muli arg1 c32_i32
  let v10 : BitVec 32 := Scalar.addi v0 c0_i32
  let c3_i32 : BitVec 32 := 3#32
  let v11 : BitVec 32 := Scalar.subi v10 c3_i32
  let v12 : BitVec 32 := Scalar.maxsi c0_i32_0 v11
  let v13 : BitVec 32 := Scalar.minsi c223_i32 v12
  let v14 : Index := Scalar.indexCast v13
  let c0_2 : Index := 0#32
  ![0, 0, v14.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x64x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x576 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x1152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x1152 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x64x32x224 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S16x64x224x224 : Shape := ⟨4, ![16, 64, 224, 224]⟩
abbrev S128x64x3x3 : Shape := ⟨4, ![128, 64, 3, 3]⟩
abbrev S128x128x3x3 : Shape := ⟨4, ![128, 128, 3, 3]⟩
abbrev S64x128x3x3 : Shape := ⟨4, ![64, 128, 3, 3]⟩
abbrev S_ : Shape := ⟨0, ![]⟩
abbrev S16x64x226x226 : Shape := ⟨4, ![16, 64, 226, 226]⟩
abbrev S128x64x1x1 : Shape := ⟨4, ![128, 64, 1, 1]⟩
abbrev S128x64 : Shape := ⟨2, ![128, 64]⟩
abbrev S16x224x224x128 : Shape := ⟨4, ![16, 224, 224, 128]⟩
abbrev S16x128x224x224 : Shape := ⟨4, ![16, 128, 224, 224]⟩
abbrev S16x128x226x226 : Shape := ⟨4, ![16, 128, 226, 226]⟩
abbrev S128x128x1x1 : Shape := ⟨4, ![128, 128, 1, 1]⟩
abbrev S128x128 : Shape := ⟨2, ![128, 128]⟩
abbrev S64x128x1x1 : Shape := ⟨4, ![64, 128, 1, 1]⟩
abbrev S64x128 : Shape := ⟨2, ![64, 128]⟩
abbrev S16x224x224x64 : Shape := ⟨4, ![16, 224, 224, 64]⟩

abbrev nBuf : Space → Nat
  | .hbm => 172
  | .vmem => 0
  | .smem => 0
  | _ => 0

abbrev hbmTy0_0 (i : Nat) : BufTy := match i % 128 with
  | 0 => ⟨S16x64x224x224, .f32⟩
  | 1 => ⟨S128x64x3x3, .f32⟩
  | 2 => ⟨S128x128x3x3, .f32⟩
  | 3 => ⟨S64x128x3x3, .f32⟩
  | 4 => ⟨S_, .i32⟩
  | 5 => ⟨S_, .f32⟩
  | 6 => ⟨S16x64x226x226, .f32⟩
  | 7 => ⟨S128x64x1x1, .f32⟩
  | 8 => ⟨S128x64, .f32⟩
  | 9 => ⟨S16x64x224x224, .f32⟩
  | 10 => ⟨S16x224x224x128, .f32⟩
  | 11 => ⟨S16x128x224x224, .f32⟩
  | 12 => ⟨S128x64x1x1, .f32⟩
  | 13 => ⟨S128x64, .f32⟩
  | 14 => ⟨S16x64x224x224, .f32⟩
  | 15 => ⟨S16x224x224x128, .f32⟩
  | 16 => ⟨S16x128x224x224, .f32⟩
  | 17 => ⟨S16x128x224x224, .f32⟩
  | 18 => ⟨S128x64x1x1, .f32⟩
  | 19 => ⟨S128x64, .f32⟩
  | 20 => ⟨S16x64x224x224, .f32⟩
  | 21 => ⟨S16x224x224x128, .f32⟩
  | 22 => ⟨S16x128x224x224, .f32⟩
  | 23 => ⟨S16x128x224x224, .f32⟩
  | 24 => ⟨S128x64x1x1, .f32⟩
  | 25 => ⟨S128x64, .f32⟩
  | 26 => ⟨S16x64x224x224, .f32⟩
  | 27 => ⟨S16x224x224x128, .f32⟩
  | 28 => ⟨S16x128x224x224, .f32⟩
  | 29 => ⟨S16x128x224x224, .f32⟩
  | 30 => ⟨S128x64x1x1, .f32⟩
  | 31 => ⟨S128x64, .f32⟩
  | 32 => ⟨S16x64x224x224, .f32⟩
  | 33 => ⟨S16x224x224x128, .f32⟩
  | 34 => ⟨S16x128x224x224, .f32⟩
  | 35 => ⟨S16x128x224x224, .f32⟩
  | 36 => ⟨S128x64x1x1, .f32⟩
  | 37 => ⟨S128x64, .f32⟩
  | 38 => ⟨S16x64x224x224, .f32⟩
  | 39 => ⟨S16x224x224x128, .f32⟩
  | 40 => ⟨S16x128x224x224, .f32⟩
  | 41 => ⟨S16x128x224x224, .f32⟩
  | 42 => ⟨S128x64x1x1, .f32⟩
  | 43 => ⟨S128x64, .f32⟩
  | 44 => ⟨S16x64x224x224, .f32⟩
  | 45 => ⟨S16x224x224x128, .f32⟩
  | 46 => ⟨S16x128x224x224, .f32⟩
  | 47 => ⟨S16x128x224x224, .f32⟩
  | 48 => ⟨S128x64x1x1, .f32⟩
  | 49 => ⟨S128x64, .f32⟩
  | 50 => ⟨S16x64x224x224, .f32⟩
  | 51 => ⟨S16x224x224x128, .f32⟩
  | 52 => ⟨S16x128x224x224, .f32⟩
  | 53 => ⟨S16x128x224x224, .f32⟩
  | 54 => ⟨S128x64x1x1, .f32⟩
  | 55 => ⟨S128x64, .f32⟩
  | 56 => ⟨S16x64x224x224, .f32⟩
  | 57 => ⟨S16x224x224x128, .f32⟩
  | 58 => ⟨S16x128x224x224, .f32⟩
  | 59 => ⟨S16x128x224x224, .f32⟩
  | 60 => ⟨S_, .i32⟩
  | 61 => ⟨S_, .f32⟩
  | 62 => ⟨S16x128x226x226, .f32⟩
  | 63 => ⟨S128x128x1x1, .f32⟩
  | 64 => ⟨S128x128, .f32⟩
  | 65 => ⟨S16x128x224x224, .f32⟩
  | 66 => ⟨S16x224x224x128, .f32⟩
  | 67 => ⟨S16x128x224x224, .f32⟩
  | 68 => ⟨S128x128x1x1, .f32⟩
  | 69 => ⟨S128x128, .f32⟩
  | 70 => ⟨S16x128x224x224, .f32⟩
  | 71 => ⟨S16x224x224x128, .f32⟩
  | 72 => ⟨S16x128x224x224, .f32⟩
  | 73 => ⟨S16x128x224x224, .f32⟩
  | 74 => ⟨S128x128x1x1, .f32⟩
  | 75 => ⟨S128x128, .f32⟩
  | 76 => ⟨S16x128x224x224, .f32⟩
  | 77 => ⟨S16x224x224x128, .f32⟩
  | 78 => ⟨S16x128x224x224, .f32⟩
  | 79 => ⟨S16x128x224x224, .f32⟩
  | 80 => ⟨S128x128x1x1, .f32⟩
  | 81 => ⟨S128x128, .f32⟩
  | 82 => ⟨S16x128x224x224, .f32⟩
  | 83 => ⟨S16x224x224x128, .f32⟩
  | 84 => ⟨S16x128x224x224, .f32⟩
  | 85 => ⟨S16x128x224x224, .f32⟩
  | 86 => ⟨S128x128x1x1, .f32⟩
  | 87 => ⟨S128x128, .f32⟩
  | 88 => ⟨S16x128x224x224, .f32⟩
  | 89 => ⟨S16x224x224x128, .f32⟩
  | 90 => ⟨S16x128x224x224, .f32⟩
  | 91 => ⟨S16x128x224x224, .f32⟩
  | 92 => ⟨S128x128x1x1, .f32⟩
  | 93 => ⟨S128x128, .f32⟩
  | 94 => ⟨S16x128x224x224, .f32⟩
  | 95 => ⟨S16x224x224x128, .f32⟩
  | 96 => ⟨S16x128x224x224, .f32⟩
  | 97 => ⟨S16x128x224x224, .f32⟩
  | 98 => ⟨S128x128x1x1, .f32⟩
  | 99 => ⟨S128x128, .f32⟩
  | 100 => ⟨S16x128x224x224, .f32⟩
  | 101 => ⟨S16x224x224x128, .f32⟩
  | 102 => ⟨S16x128x224x224, .f32⟩
  | 103 => ⟨S16x128x224x224, .f32⟩
  | 104 => ⟨S128x128x1x1, .f32⟩
  | 105 => ⟨S128x128, .f32⟩
  | 106 => ⟨S16x128x224x224, .f32⟩
  | 107 => ⟨S16x224x224x128, .f32⟩
  | 108 => ⟨S16x128x224x224, .f32⟩
  | 109 => ⟨S16x128x224x224, .f32⟩
  | 110 => ⟨S128x128x1x1, .f32⟩
  | 111 => ⟨S128x128, .f32⟩
  | 112 => ⟨S16x128x224x224, .f32⟩
  | 113 => ⟨S16x224x224x128, .f32⟩
  | 114 => ⟨S16x128x224x224, .f32⟩
  | 115 => ⟨S16x128x224x224, .f32⟩
  | 116 => ⟨S_, .i32⟩
  | 117 => ⟨S_, .f32⟩
  | 118 => ⟨S16x128x226x226, .f32⟩
  | 119 => ⟨S64x128x1x1, .f32⟩
  | 120 => ⟨S64x128, .f32⟩
  | 121 => ⟨S16x128x224x224, .f32⟩
  | 122 => ⟨S16x224x224x64, .f32⟩
  | 123 => ⟨S16x64x224x224, .f32⟩
  | 124 => ⟨S64x128x1x1, .f32⟩
  | 125 => ⟨S64x128, .f32⟩
  | 126 => ⟨S16x128x224x224, .f32⟩
  | 127 => ⟨S16x224x224x64, .f32⟩
  | _ => ⟨S16x64x224x224, .f32⟩

abbrev hbmTy0_1 (i : Nat) : BufTy := match i % 128 with
  | 0 => ⟨S16x64x224x224, .f32⟩
  | 1 => ⟨S16x64x224x224, .f32⟩
  | 2 => ⟨S64x128x1x1, .f32⟩
  | 3 => ⟨S64x128, .f32⟩
  | 4 => ⟨S16x128x224x224, .f32⟩
  | 5 => ⟨S16x224x224x64, .f32⟩
  | 6 => ⟨S16x64x224x224, .f32⟩
  | 7 => ⟨S16x64x224x224, .f32⟩
  | 8 => ⟨S64x128x1x1, .f32⟩
  | 9 => ⟨S64x128, .f32⟩
  | 10 => ⟨S16x128x224x224, .f32⟩
  | 11 => ⟨S16x224x224x64, .f32⟩
  | 12 => ⟨S16x64x224x224, .f32⟩
  | 13 => ⟨S16x64x224x224, .f32⟩
  | 14 => ⟨S64x128x1x1, .f32⟩
  | 15 => ⟨S64x128, .f32⟩
  | 16 => ⟨S16x128x224x224, .f32⟩
  | 17 => ⟨S16x224x224x64, .f32⟩
  | 18 => ⟨S16x64x224x224, .f32⟩
  | 19 => ⟨S16x64x224x224, .f32⟩
  | 20 => ⟨S64x128x1x1, .f32⟩
  | 21 => ⟨S64x128, .f32⟩
  | 22 => ⟨S16x128x224x224, .f32⟩
  | 23 => ⟨S16x224x224x64, .f32⟩
  | 24 => ⟨S16x64x224x224, .f32⟩
  | 25 => ⟨S16x64x224x224, .f32⟩
  | 26 => ⟨S64x128x1x1, .f32⟩
  | 27 => ⟨S64x128, .f32⟩
  | 28 => ⟨S16x128x224x224, .f32⟩
  | 29 => ⟨S16x224x224x64, .f32⟩
  | 30 => ⟨S16x64x224x224, .f32⟩
  | 31 => ⟨S16x64x224x224, .f32⟩
  | 32 => ⟨S64x128x1x1, .f32⟩
  | 33 => ⟨S64x128, .f32⟩
  | 34 => ⟨S16x128x224x224, .f32⟩
  | 35 => ⟨S16x224x224x64, .f32⟩
  | 36 => ⟨S16x64x224x224, .f32⟩
  | 37 => ⟨S16x64x224x224, .f32⟩
  | 38 => ⟨S64x128x1x1, .f32⟩
  | 39 => ⟨S64x128, .f32⟩
  | 40 => ⟨S16x128x224x224, .f32⟩
  | 41 => ⟨S16x224x224x64, .f32⟩
  | 42 => ⟨S16x64x224x224, .f32⟩
  | 43 => ⟨S16x64x224x224, .f32⟩
  | _ => ⟨S16x64x224x224, .f32⟩

abbrev hbmTy (i : Nat) : BufTy := match i / 128 with
  | 0 => hbmTy0_0 i
  | 1 => hbmTy0_1 i
  | _ => ⟨S16x64x224x224, .f32⟩

abbrev bufTy : (tb : Table) → Fin (tcTables nBuf tb) → BufTy
  | .hbm, ⟨i, _⟩ => hbmTy i
  | _, _ => ⟨S16x64x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_c_0 : Ref sig .tc := ⟨.hbm, 60, rfl⟩
abbrev main_call1_v0 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_c_1 : Ref sig .tc := ⟨.hbm, 116, rfl⟩
abbrev main_call2_v0 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩

abbrev nD : Nat := 1
abbrev τ : Topo := Topo.v7x

variable {F : FTy → Type} [FloatOps F]
-- ==== Proof.Stages.lean ====
/- One row of each stage of the kernel, written once: the printed body repeats these rows 38, 36, 34
   and 32 times with the row number changed. -/
module

public import proofs.«01_k».proof.Proof.Gen.KernelIdeal.Value
public import Idealize.ShloMosaic.PureOps.Ideal

@[expose] public section

noncomputable section

namespace Cert.Conv

open Cert.KernelIdeal Cert.KernelIdeal.Gen Idealize.ShloMosaic Idealize.ShloMosaic.TcCoe Idealize.SL.Sem

/-- The first picture row of the strip a grid point works on, as a machine word. -/
def base (i : grid0.Coords) : BitVec 32 := Scalar.muli (BitVec.ofNat 32 (i 1).val) 32#32

/-- The word of the picture row `k - off` rows below the strip's first. -/
def rowWord (i : grid0.Coords) (k off : ℕ) : BitVec 32 :=
  Scalar.subi (Scalar.addi (base i) (BitVec.ofNat 32 k)) (BitVec.ofNat 32 off)

/-- One when the word is a row of the picture, zero when not. -/
def inRows (t : BitVec 32) : Ideal .f32 :=
  Scalar.sitofp (F := Ideal) .f32 (Scalar.extui (Scalar.andi (Scalar.cmpi .sge t 0#32) (Scalar.cmpi .slt t 224#32)))

/-- Three copies of a 64-channel slab one above the other: turned right by one lane, as it is, turned
    left by one lane. -/
def spread64 (v : FVec Ideal S64x226 .bf16) : FVec Ideal S192x226 .bf16 :=
  concatenate S192x226 0
    [⟨S64x226, concatenate S64x226 1
      [⟨S64x1, extractStridedSlice S64x1 ![0, 225] v slices_S64x226_o0_225_S64x1⟩,
       ⟨S64x225, extractStridedSlice S64x225 ![0, 0] v slices_S64x226_o0_0_S64x225⟩]
      concatenates_S64x1_S64x225_S64x226_d1⟩,
     ⟨S64x226, v⟩,
     ⟨S64x226, concatenate S64x226 1
      [⟨S64x225, extractStridedSlice S64x225 ![0, 1] v slices_S64x226_o0_1_S64x225⟩,
       ⟨S64x1, extractStridedSlice S64x1 ![0, 0] v slices_S64x226_o0_0_S64x1⟩]
      concatenates_S64x225_S64x1_S64x226_d1⟩]
    concatenates_S64x226_S64x226_S64x226_S192x226_d0

/-- The same for a 128-channel slab. -/
def spread128 (v : FVec Ideal S128x226 .bf16) : FVec Ideal S384x226 .bf16 :=
  concatenate S384x226 0
    [⟨S128x226, concatenate S128x226 1
      [⟨S128x1, extractStridedSlice S128x1 ![0, 225] v slices_S128x226_o0_225_S128x1⟩,
       ⟨S128x225, extractStridedSlice S128x225 ![0, 0] v slices_S128x226_o0_0_S128x225⟩]
      concatenates_S128x1_S128x225_S128x226_d1⟩,
     ⟨S128x226, v⟩,
     ⟨S128x226, concatenate S128x226 1
      [⟨S128x225, extractStridedSlice S128x225 ![0, 1] v slices_S128x226_o0_1_S128x225⟩,
       ⟨S128x1, extractStridedSlice S128x1 ![0, 0] v slices_S128x226_o0_0_S128x1⟩]
      concatenates_S128x225_S128x1_S128x226_d1⟩]
    concatenates_S128x226_S128x226_S128x226_S384x226_d0

/-- A picture row for the first stage: scaled by the flag of its word, a zero lane on either side. -/
def slab0 (t : BitVec 32) (x : Vec Ideal S1x64x1x224 .f32) : FVec Ideal S64x226 .bf16 :=
  truncf .bf16 (concatenate S64x226 1
    [⟨S64x1, k0_pay4 (F := Ideal)⟩,
     ⟨S64x224, mulf (shapeCast S64x224 x shapeCasts_S1x64x1x224_S64x224) (broadcast S64x224 (inRows t))⟩,
     ⟨S64x1, k0_pay4 (F := Ideal)⟩] concatenates_S64x1_S64x224_S64x1_S64x226_d1) bitsLt_bf16_f32

/-- What the first loop stores for one row. -/
def row0 (t : BitVec 32) (x : Vec Ideal S1x64x1x224 .f32) : FVec Ideal S1x192x226 .bf16 :=
  shapeCast S1x192x226 (spread64 (slab0 t x)) shapeCasts_S192x226_S1x192x226

/-- The mask of a row: one on the 224 inner lanes of a row of the picture, zero elsewhere. -/
def mask (t : BitVec 32) : FVec Ideal S128x226 .f32 :=
  broadcastTo S128x226 (mulf (k0_pay3 (F := Ideal)) (broadcast S1x226 (inRows t))) broadcasts_S1x226_S128x226

/-- The product of the first weights with three rows of 192, masked. -/
def slab1 (t : BitVec 32) (r : Vec Ideal S3x192x226 .bf16) (w : Vec Ideal S128x576 .bf16) : FVec Ideal S128x226 .bf16 :=
  truncf .bf16 (mulf (matmul dot_S128x576_S576x226_S128x226_1_0_0_1_n_n none
    (shapeCast S128x576 w shapeCasts_S128x576_S128x576 : FVec Ideal S128x576 .bf16)
    (shapeCast S576x226 r shapeCasts_S3x192x226_S576x226 : FVec Ideal S576x226 .bf16)
    (constant S128x226 .f32 0x00000000#32)) (mask t)) bitsLt_bf16_f32

/-- What the second loop stores for one row. -/
def row1 (t : BitVec 32) (r : Vec Ideal S3x192x226 .bf16) (w : Vec Ideal S128x576 .bf16) : FVec Ideal S1x384x226 .bf16 :=
  shapeCast S1x384x226 (spread128 (slab1 t r w)) shapeCasts_S384x226_S1x384x226

/-- The product of the second weights with three rows of 384, masked. -/
def slab2 (t : BitVec 32) (r : Vec Ideal S3x384x226 .bf16) (w : Vec Ideal S128x1152 .bf16) : FVec Ideal S128x226 .bf16 :=
  truncf .bf16 (mulf (matmul dot_S128x1152_S1152x226_S128x226_1_0_0_1_n_n none
    (shapeCast S128x1152 w shapeCasts_S128x1152_S128x1152 : FVec Ideal S128x1152 .bf16)
    (shapeCast S1152x226 r shapeCasts_S3x384x226_S1152x226 : FVec Ideal S1152x226 .bf16)
    (constant S128x226 .f32 0x00000000#32)) (mask t)) bitsLt_bf16_f32

/-- What the third loop stores for one row. -/
def row2 (t : BitVec 32) (r : Vec Ideal S3x384x226 .bf16) (w : Vec Ideal S128x1152 .bf16) : FVec Ideal S1x384x226 .bf16 :=
  shapeCast S1x384x226 (spread128 (slab2 t r w)) shapeCasts_S384x226_S1x384x226

/-- What the last loop stores for one row: the third product's 224 inner lanes. -/
def row3 (r : Vec Ideal S3x384x226 .bf16) (w : Vec Ideal S64x1152 .bf16) : FVec Ideal S1x64x1x224 .f32 :=
  shapeCast S1x64x1x224 (extractStridedSlice S64x224 ![0, 1]
    (matmul dot_S64x1152_S1152x226_S64x226_1_0_0_1_n_n none
      (shapeCast S64x1152 w shapeCasts_S64x1152_S64x1152 : FVec Ideal S64x1152 .bf16)
      (shapeCast S1152x226 r shapeCasts_S3x384x226_S1152x226 : FVec Ideal S1152x226 .bf16)
      (constant S64x226 .f32 0x00000000#32)) slices_S64x226_o0_1_S64x224) shapeCasts_S64x224_S1x64x1x224

end Cert.Conv

end
-- ==== Proof.Strips.lean ====
/- Buffers filled row by row: a list of stores, one per row of the leading axis (or of the row axis of
   the result block), and what a buffer so filled holds. -/
module

public import Idealize.ShloMosaic.Lib.Pipeline.Value
public import Idealize.ShloMosaic.PureOps.Ideal
public import Idealize.ShloMosaic.Lib.Pointwise

@[expose] public section

noncomputable section

namespace Cert.Conv

open Idealize.ShloMosaic Idealize.ShloMosaic.TcCoe Idealize.SL.Sem Idealize.ShloMosaic.Pointwise

/-- A box of `m` whole leading rows from row `k` lies inside a buffer of `N` rows. -/
theorem rows_inside {N A B k m : ℕ} (h : k + m ≤ N) :
    ∀ a, (![k, 0, 0] : Fin 3 → ℕ) a + (⟨3, ![m, A, B]⟩ : Shape).size a ≤ (⟨3, ![N, A, B]⟩ : Shape).size a := by
  intro a; fin_cases a
  · exact h
  · exact (Nat.zero_add A).le
  · exact (Nat.zero_add B).le

/-- The stores of rows `n - 1`, …, `0` of a buffer of `N` rows of `A` by `B`, the last one first. -/
def strips {N A B : ℕ} {e : EltTy} (row : (k : ℕ) → k < N → (⟨3, ![1, A, B]⟩ : Shape).Idx → Elt Ideal e) :
    (n : ℕ) → n ≤ N → List (View.Piece (Elt Ideal) ⟨3, ![N, A, B]⟩ e)
  | 0, _ => []
  | n + 1, h => ⟨Rect.unit (s := ⟨3, ![N, A, B]⟩) ![n, 0, 0] (⟨3, ![1, A, B]⟩ : Shape).size (rows_inside h), row n h⟩
      :: strips row n (Nat.le_of_succ_le h)

/-- Every store of the list writes what one function `G` of the whole buffer says, if each row does. -/
theorem strips_agree {N A B : ℕ} {e : EltTy} (row : (k : ℕ) → k < N → (⟨3, ![1, A, B]⟩ : Shape).Idx → Elt Ideal e)
    (G : (⟨3, ![N, A, B]⟩ : Shape).Idx → Elt Ideal e)
    (hrow : ∀ k (hk : k < N) (r : Fin A) (l : Fin B), row k hk (ix3 (0 : Fin 1) r l) = G (ix3 (⟨k, hk⟩ : Fin N) r l)) :
    ∀ n (h : n ≤ N), ∀ p ∈ strips row n h, ∀ x : p.1.shape.Idx, p.2 x = G (p.1.emb x)
  | 0, _, p, hp, _ => by simp [strips] at hp
  | n + 1, h, p, hp, x => by
    rcases List.mem_cons.1 hp with rfl | hp
    · have e1 : (x : (⟨3, ![1, A, B]⟩ : Shape).Idx) = ix3 (0 : Fin 1) (x 1 : Fin A) (x 2 : Fin B) := by
        funext a; fin_cases a
        · exact Subsingleton.elim (α := Fin 1) _ _
        · rfl
        · rfl
      have e2 : (Rect.unit (s := ⟨3, ![N, A, B]⟩) ![n, 0, 0] (⟨3, ![1, A, B]⟩ : Shape).size (rows_inside h)).emb x
          = ix3 (⟨n, h⟩ : Fin N) (x 1 : Fin A) (x 2 : Fin B) := by
        funext a; apply Fin.ext; fin_cases a
        · show n + 1 * (x 0 : ℕ) = n
          have : ((x : (⟨3, ![1, A, B]⟩ : Shape).Idx) 0 : ℕ) < 1 := Fin.isLt _
          omega
        · show 0 + 1 * (x 1 : ℕ) = (x 1 : ℕ); omega
        · show 0 + 1 * (x 2 : ℕ) = (x 2 : ℕ); omega
      exact (congrArg (row n h) e1).trans ((hrow n h _ _).trans (congrArg G e2.symm))
    · exact strips_agree row G hrow n _ p hp x

/-- The rows below `n` are each under a store of the list. -/
theorem strips_cover {N A B : ℕ} {e : EltTy} (row : (k : ℕ) → k < N → (⟨3, ![1, A, B]⟩ : Shape).Idx → Elt Ideal e)
    (y : (⟨3, ![N, A, B]⟩ : Shape).Idx) :
    ∀ n (h : n ≤ N), (y 0 : ℕ) < n → ∃ p ∈ strips row n h, y ∈ p.1.set
  | 0, _, hy => absurd hy (Nat.not_lt_zero _)
  | n + 1, h, hy => by
    by_cases hn : (y 0 : ℕ) = n
    · refine ⟨_, List.mem_cons_self, (Rect.mem_set_unit (inb := rows_inside h)).2 fun a => ?_⟩
      fin_cases a
      · exact ⟨hn.ge, by show (y 0 : ℕ) < n + 1; omega⟩
      · exact ⟨Nat.zero_le _, by show (y 1 : ℕ) < 0 + A; rw [Nat.zero_add]; exact (y 1).isLt⟩
      · exact ⟨Nat.zero_le _, by show (y 2 : ℕ) < 0 + B; rw [Nat.zero_add]; exact (y 2).isLt⟩
    · obtain ⟨p, hp, hm⟩ := strips_cover row y n (Nat.le_of_succ_le h) (by omega)
      exact ⟨p, List.mem_cons_of_mem _ hp, hm⟩

/-- A load of `m` rows from row `k` of a buffer filled row by row reads the function the rows restrict. -/
theorem readCov_strips {sig : RefSig} {κ : Kind} {sp : Space} {N A B m k : ℕ} {e : EltTy}
    (v : View sig κ sp (⟨3, ![N, A, B]⟩ : Shape) e)
    (row : (k : ℕ) → k < N → (⟨3, ![1, A, B]⟩ : Shape).Idx → Elt Ideal e)
    (G : (⟨3, ![N, A, B]⟩ : Shape).Idx → Elt Ideal e)
    (hrow : ∀ k (hk : k < N) (r : Fin A) (l : Fin B), row k hk (ix3 (0 : Fin 1) r l) = G (ix3 (⟨k, hk⟩ : Fin N) r l))
    (h : k + m ≤ N) (d : Fin m) (r : Fin A) (l : Fin B) :
    v.readCov (strips row N (Nat.le_refl N))
        (Rect.unit (s := ⟨3, ![N, A, B]⟩) ![k, 0, 0] (⟨3, ![m, A, B]⟩ : Shape).size (rows_inside h)).toLoadRect (ix3 d r l)
      = G (ix3 (⟨k + d, by omega⟩ : Fin N) r l) := by
  rw [View.readCov_eq_canon']
  show View.canon _ _ = _
  rw [View.canon_apply_of_pieces G _ (strips_agree row G hrow N (Nat.le_refl N)) _
    (strips_cover row _ N (Nat.le_refl N) (Fin.isLt _))]
  congr 1
  funext a; apply Fin.ext; fin_cases a
  · show k + 1 * (d : ℕ) = k + d; omega
  · show 0 + 1 * (r : ℕ) = (r : ℕ); omega
  · show 0 + 1 * (l : ℕ) = (l : ℕ); omega

/-- A box of one whole row `k` lies inside a result block of `N` rows. -/
theorem line_inside {C N B k : ℕ} (h : k + 1 ≤ N) :
    ∀ a, (![0, 0, k, 0] : Fin 4 → ℕ) a + (⟨4, ![1, C, 1, B]⟩ : Shape).size a ≤ (⟨4, ![1, C, N, B]⟩ : Shape).size a := by
  intro a; fin_cases a
  · exact Nat.le_refl 1
  · exact (Nat.zero_add C).le
  · exact h
  · exact (Nat.zero_add B).le

/-- The stores of rows `n - 1`, …, `0` of a result block, the last one first. -/
def lines {C N B : ℕ} {e : EltTy} (row : (k : ℕ) → k < N → (⟨4, ![1, C, 1, B]⟩ : Shape).Idx → Elt Ideal e) :
    (n : ℕ) → n ≤ N → List (View.Piece (Elt Ideal) ⟨4, ![1, C, N, B]⟩ e)
  | 0, _ => []
  | n + 1, h => ⟨Rect.unit (s := ⟨4, ![1, C, N, B]⟩) ![0, 0, n, 0] (⟨4, ![1, C, 1, B]⟩ : Shape).size (line_inside h), row n h⟩
      :: lines row n (Nat.le_of_succ_le h)

/-- Every store of a result block's list writes what one function `G` of the block says, if each row does. -/
theorem lines_agree {C N B : ℕ} {e : EltTy} (row : (k : ℕ) → k < N → (⟨4, ![1, C, 1, B]⟩ : Shape).Idx → Elt Ideal e)
    (G : (⟨4, ![1, C, N, B]⟩ : Shape).Idx → Elt Ideal e)
    (hrow : ∀ k (hk : k < N) (c : Fin C) (l : Fin B),
      row k hk (ix4 (0 : Fin 1) c (0 : Fin 1) l) = G (ix4 (0 : Fin 1) c (⟨k, hk⟩ : Fin N) l)) :
    ∀ n (h : n ≤ N), ∀ p ∈ lines row n h, ∀ x : p.1.shape.Idx, p.2 x = G (p.1.emb x)
  | 0, _, p, hp, _ => by simp [lines] at hp
  | n + 1, h, p, hp, x => by
    rcases List.mem_cons.1 hp with rfl | hp
    · have e1 : (x : (⟨4, ![1, C, 1, B]⟩ : Shape).Idx) = ix4 (0 : Fin 1) (x 1 : Fin C) (0 : Fin 1) (x 3 : Fin B) := by
        funext a; fin_cases a
        · exact Subsingleton.elim (α := Fin 1) _ _
        · rfl
        · exact Subsingleton.elim (α := Fin 1) _ _
        · rfl
      have e2 : (Rect.unit (s := ⟨4, ![1, C, N, B]⟩) ![0, 0, n, 0] (⟨4, ![1, C, 1, B]⟩ : Shape).size (line_inside h)).emb x
          = ix4 (0 : Fin 1) (x 1 : Fin C) (⟨n, h⟩ : Fin N) (x 3 : Fin B) := by
        funext a; apply Fin.ext; fin_cases a
        · show 0 + 1 * (x 0 : ℕ) = 0
          have : (x 0 : ℕ) < 1 := (x 0).isLt
          omega
        · show 0 + 1 * (x 1 : ℕ) = (x 1 : ℕ); omega
        · show n + 1 * (x 2 : ℕ) = n
          have : (x 2 : ℕ) < 1 := (x 2).isLt
          omega
        · show 0 + 1 * (x 3 : ℕ) = (x 3 : ℕ); omega
      exact (congrArg (row n h) e1).trans ((hrow n h _ _).trans (congrArg G e2.symm))
    · exact lines_agree row G hrow n _ p hp x

/-- The rows below `n` of a result block are each under a store of the list. -/
theorem lines_cover {C N B : ℕ} {e : EltTy} (row : (k : ℕ) → k < N → (⟨4, ![1, C, 1, B]⟩ : Shape).Idx → Elt Ideal e)
    (y : (⟨4, ![1, C, N, B]⟩ : Shape).Idx) :
    ∀ n (h : n ≤ N), (y 2 : ℕ) < n → ∃ p ∈ lines row n h, y ∈ p.1.set
  | 0, _, hy => absurd hy (Nat.not_lt_zero _)
  | n + 1, h, hy => by
    by_cases hn : (y 2 : ℕ) = n
    · refine ⟨_, List.mem_cons_self, (Rect.mem_set_unit (inb := line_inside h)).2 fun a => ?_⟩
      fin_cases a
      · exact ⟨Nat.zero_le _, by show (y 0 : ℕ) < 0 + 1; rw [Nat.zero_add]; exact (y 0).isLt⟩
      · exact ⟨Nat.zero_le _, by show (y 1 : ℕ) < 0 + C; rw [Nat.zero_add]; exact (y 1).isLt⟩
      · exact ⟨hn.ge, by show (y 2 : ℕ) < n + 1; omega⟩
      · exact ⟨Nat.zero_le _, by show (y 3 : ℕ) < 0 + B; rw [Nat.zero_add]; exact (y 3).isLt⟩
    · obtain ⟨p, hp, hm⟩ := lines_cover row y n (Nat.le_of_succ_le h) (by omega)
      exact ⟨p, List.mem_cons_of_mem _ hp, hm⟩

/-- A result block filled row by row holds the function its rows restrict. -/
theorem canon_lines {C N B : ℕ} {e : EltTy} (row : (k : ℕ) → k < N → (⟨4, ![1, C, 1, B]⟩ : Shape).Idx → Elt Ideal e)
    (G : (⟨4, ![1, C, N, B]⟩ : Shape).Idx → Elt Ideal e)
    (hrow : ∀ k (hk : k < N) (c : Fin C) (l : Fin B),
      row k hk (ix4 (0 : Fin 1) c (0 : Fin 1) l) = G (ix4 (0 : Fin 1) c (⟨k, hk⟩ : Fin N) l)) :
    View.canon (lines row N (Nat.le_refl N)) = G :=
  funext fun y => View.canon_apply_of_pieces G _ (lines_agree row G hrow N (Nat.le_refl N)) y
    (lines_cover row y N (Nat.le_refl N) (Fin.isLt _))

end Cert.Conv

end
-- ==== Proof.Witness.lean ====
/- The printed body's stores are the rows of Stages, one per step of each loop. -/
module

public import proofs.«01_k».proof.Proof.Stages
public import proofs.«01_k».proof.Proof.Strips

@[expose] public section

noncomputable section

namespace Cert.Conv

open Cert.KernelIdeal Cert.KernelIdeal.Gen Idealize.ShloMosaic Idealize.ShloMosaic.TcCoe Idealize.SL.Sem

section

variable (c : Dev nD) (i : grid0.Coords)
  (arg2 : Memref sig .tc .vmem S1x64x224x224 .f32) (harg2 : arg2.IsWhole)
  (arg3 : Memref sig .tc .vmem S128x576 .bf16) (harg3 : arg3.IsWhole)
  (arg4 : Memref sig .tc .vmem S128x1152 .bf16) (harg4 : arg4.IsWhole)
  (arg5 : Memref sig .tc .vmem S64x1152 .bf16) (harg5 : arg5.IsWhole)
  (arg6 : Memref sig .tc .vmem S1x64x32x224 .f32) (harg6 : arg6.IsWhole)
  (arg7 : Memref sig .tc .vmem S38x192x226 .bf16) (harg7 : arg7.IsWhole)
  (arg8 : Memref sig .tc .vmem S36x384x226 .bf16) (harg8 : arg8.IsWhole)
  (arg9 : Memref sig .tc .vmem S34x384x226 .bf16) (harg9 : arg9.IsWhole)
  (x0 : Vec Ideal S1x64x224x224 .f32) (x1 : Vec Ideal S128x576 .bf16)
  (x2 : Vec Ideal S128x1152 .bf16) (x3 : Vec Ideal S64x1152 .bf16)

/-- The rows the first loop stores, from the block `x0`. -/
def rows0 (k : ℕ) (hk : k < 38) : FVec Ideal S1x192x226 .bf16 :=
  row0 (rowWord i k 3) (View.readAt (Elt Ideal) arg2.view (Rect.unit (s := S1x64x224x224)
    (k0_off1 i (BitVec.ofNat 32 k)) S1x64x1x224.size (k0_off1_inb i ⟨k, hk⟩)).toLoadRect (harg2.unread x0))

/-- The first weights as loaded. -/
def weights1 : Vec Ideal S128x576 .bf16 :=
  View.readAt (Elt Ideal) arg3.view (Rect.unit ![0, 0] S128x576.size inb_S128x576_S128x576_0_0).toLoadRect (harg3.unread x1)

/-- The second weights as loaded. -/
def weights2 : Vec Ideal S128x1152 .bf16 :=
  View.readAt (Elt Ideal) arg4.view (Rect.unit ![0, 0] S128x1152.size inb_S128x1152_S128x1152_0_0).toLoadRect (harg4.unread x2)

/-- The third weights as loaded. -/
def weights3 : Vec Ideal S64x1152 .bf16 :=
  View.readAt (Elt Ideal) arg5.view (Rect.unit ![0, 0] S64x1152.size inb_S64x1152_S64x1152_0_0).toLoadRect (harg5.unread x3)

/-- Three rows of the first scratch buffer, from row `k`, once the first loop is through. -/
def window0 (k : ℕ) (hk : k < 36) : Vec Ideal S3x192x226 .bf16 :=
  arg7.view.readCov (strips (N := 38) (A := 192) (B := 226) (e := .bf16) (rows0 i arg2 harg2 x0) 38 (Nat.le_refl 38))
    (Rect.unit (s := S38x192x226) ![k, 0, 0] S3x192x226.size (rows_inside (by omega))).toLoadRect

/-- The rows the second loop stores. -/
def rows1 (k : ℕ) (hk : k < 36) : FVec Ideal S1x384x226 .bf16 :=
  row1 (rowWord i k 2) (window0 i arg2 harg2 arg7 x0 k hk) (weights1 arg3 harg3 x1)

/-- Three rows of the second scratch buffer, from row `k`, once the second loop is through. -/
def window1 (k : ℕ) (hk : k < 34) : Vec Ideal S3x384x226 .bf16 :=
  arg8.view.readCov (strips (N := 36) (A := 384) (B := 226) (e := .bf16) (rows1 i arg2 harg2 arg3 harg3 arg7 x0 x1) 36 (Nat.le_refl 36))
    (Rect.unit (s := S36x384x226) ![k, 0, 0] S3x384x226.size (rows_inside (by omega))).toLoadRect

/-- The rows the third loop stores. -/
def rows2 (k : ℕ) (hk : k < 34) : FVec Ideal S1x384x226 .bf16 :=
  row2 (rowWord i k 1) (window1 i arg2 harg2 arg3 harg3 arg7 arg8 x0 x1 k hk) (weights2 arg4 harg4 x2)

/-- Three rows of the third scratch buffer, from row `k`, once the third loop is through. -/
def window2 (k : ℕ) (hk : k < 32) : Vec Ideal S3x384x226 .bf16 :=
  arg9.view.readCov (strips (N := 34) (A := 384) (B := 226) (e := .bf16)
      (rows2 i arg2 harg2 arg3 harg3 arg4 harg4 arg7 arg8 x0 x1 x2) 34 (Nat.le_refl 34))
    (Rect.unit (s := S34x384x226) ![k, 0, 0] S3x384x226.size (rows_inside (by omega))).toLoadRect

/-- The rows the last loop stores. -/
def rows3 (k : ℕ) (hk : k < 32) : FVec Ideal S1x64x1x224 .f32 :=
  row3 (window2 i arg2 harg2 arg3 harg3 arg4 harg4 arg7 arg8 arg9 x0 x1 x2 k hk) (weights3 arg5 harg5 x3)

set_option maxRecDepth 65536 in
/-- What the first loop leaves in its scratch buffer, as the list of its stores. -/
theorem stores0 : kernelRun0_A.sl.HS0_38 (F := Ideal) c i arg2 harg2 x0
    = strips (N := 38) (A := 192) (B := 226) (e := .bf16) (rows0 i arg2 harg2 x0) 38 (Nat.le_refl 38) := rfl

set_option maxRecDepth 65536 in
/-- What the second loop leaves in its scratch buffer. -/
theorem stores1 : kernelRun0_A.sl.HS1_36 (F := Ideal) c i arg2 harg2 arg3 harg3 arg7 x0 x1
    = strips (N := 36) (A := 384) (B := 226) (e := .bf16) (rows1 i arg2 harg2 arg3 harg3 arg7 x0 x1) 36 (Nat.le_refl 36) := rfl

set_option maxRecDepth 65536 in
/-- What the third loop leaves in its scratch buffer. -/
theorem stores2 : kernelRun0_A.sl.HS2_34 (F := Ideal) c i arg2 harg2 arg3 harg3 arg4 harg4 arg7 arg8 x0 x1 x2
    = strips (N := 34) (A := 384) (B := 226) (e := .bf16) (rows2 i arg2 harg2 arg3 harg3 arg4 harg4 arg7 arg8 x0 x1 x2) 34
        (Nat.le_refl 34) := rfl

set_option maxRecDepth 65536 in
/-- What the last loop leaves in the result block. -/
theorem stores3 : (kernelRun0_A (F := Ideal) c i arg2 harg2 arg3 harg3 arg4 harg4 arg5 harg5 arg6 harg6 arg7 harg7 arg8 harg8
      arg9 harg9 x0 x1 x2 x3).1
    = lines (C := 64) (N := 32) (B := 224) (e := .f32)
        (rows3 i arg2 harg2 arg3 harg3 arg4 harg4 arg5 harg5 arg7 arg8 arg9 x0 x1 x2 x3) 32 (Nat.le_refl 32) := by
  unfold kernelRun0_A
  rfl

end

end Cert.Conv

end
-- ==== Proof.Rows.lean ====
/- The rows of Stages read at an index. -/
module

public import proofs.«01_k».proof.Proof.Stages
public import Idealize.ShloMosaic.Lib.Pointwise

@[expose] public section

noncomputable section

namespace Cert.Conv

open Cert.KernelIdeal Cert.KernelIdeal.Gen Idealize.ShloMosaic Idealize.ShloMosaic.TcCoe Idealize.SL.Sem
open Idealize.ShloMosaic.Pointwise

/-- A one-bit flag made a float is the number one or zero. -/
theorem flag_value (b : BitVec 1) :
    FloatOps.sitofp (F := Ideal) FTy.f32 (BitVec.setWidth 32 b) = if b = 1#1 then (1 : EReal) else 0 := by
  have h : b = 0#1 ∨ b = 1#1 := by revert b; decide
  rcases h with rfl | rfl
  · show (((BitVec.setWidth 32 0#1).toInt : ℝ) : EReal) = _
    norm_num
  · show (((BitVec.setWidth 32 1#1).toInt : ℝ) : EReal) = _
    norm_num

/-- The bit that says a lane is one of the 224 inner ones. -/
theorem lane_bit : ∀ l : Fin 226,
    IntOp.andi (IntOp.cmpi CmpIPredicate.sge (BitVec.ofNat 32 (l : ℕ)) 1#32)
      (IntOp.cmpi CmpIPredicate.slt (BitVec.ofNat 32 (l : ℕ)) 225#32)
      = if 1 ≤ (l : ℕ) ∧ (l : ℕ) < 225 then 1#1 else 0#1 := by decide +kernel

/-- The bit that says row `k - off` of strip `s` is a row of the picture. -/
theorem row_bit : ∀ (s : Fin 7) (k : Fin 38) (off : Fin 4),
    IntOp.andi
      (IntOp.cmpi CmpIPredicate.sge (Scalar.subi (Scalar.addi (Scalar.muli (BitVec.ofNat 32 (s : ℕ)) 32#32)
        (BitVec.ofNat 32 (k : ℕ))) (BitVec.ofNat 32 (off : ℕ))) 0#32)
      (IntOp.cmpi CmpIPredicate.slt (Scalar.subi (Scalar.addi (Scalar.muli (BitVec.ofNat 32 (s : ℕ)) 32#32)
        (BitVec.ofNat 32 (k : ℕ))) (BitVec.ofNat 32 (off : ℕ))) 224#32)
      = if (off : ℕ) ≤ 32 * (s : ℕ) + k ∧ 32 * (s : ℕ) + k < 224 + off then 1#1 else 0#1 := by decide +kernel

/-- The flag of a row, as a number. -/
theorem inRows_value (i : grid0.Coords) (k off : ℕ) (hk : k < 38) (ho : off < 4) :
    inRows (rowWord i k off) = if 0 ≤ (32 * ((i 1 : ℕ) : ℤ) + k - off) ∧ (32 * ((i 1 : ℕ) : ℤ) + k - off) < 224 then 1 else 0 := by
  have h := row_bit (i 1) ⟨k, hk⟩ ⟨off, ho⟩
  refine (flag_value _).trans ?_
  rw [show Scalar.andi (Scalar.cmpi .sge (rowWord i k off) 0#32) (Scalar.cmpi .slt (rowWord i k off) 224#32) = _ from h]
  by_cases hc : off ≤ 32 * (i 1 : ℕ) + k ∧ 32 * (i 1 : ℕ) + k < 224 + off
  · rw [if_pos hc, if_pos rfl, if_pos (by omega)]
  · rw [if_neg hc, if_neg (by decide), if_neg (by omega)]

/-- The three copies of a 64-channel slab: row `64 * j + c`, lane `l` is channel `c` at lane `l + j - 1`
    taken around the 226 lanes. -/
theorem spread64_apply (v : FVec Ideal S64x226 .bf16) (r : Fin 192) (l : Fin 226) :
    spread64 v (ix2 r l) = v (ix2 (⟨r % 64, by omega⟩ : Fin 64) (⟨(l + r / 64 + 225) % 226, by omega⟩ : Fin 226)) := by
  pointwise [spread64]
  split_ifs <;> congr 2 <;> apply Fin.ext <;> simp only [] <;> omega

/-- The same for a 128-channel slab. -/
theorem spread128_apply (v : FVec Ideal S128x226 .bf16) (r : Fin 384) (l : Fin 226) :
    spread128 v (ix2 r l) = v (ix2 (⟨r % 128, by omega⟩ : Fin 128) (⟨(l + r / 128 + 225) % 226, by omega⟩ : Fin 226)) := by
  pointwise [spread128]
  split_ifs <;> congr 2 <;> apply Fin.ext <;> simp only [] <;> omega

/-- The first stage's slab: the picture row on the inner lanes, times the row's flag; zero on the two
    border lanes. -/
theorem slab0_apply (t : BitVec 32) (x : Vec Ideal S1x64x1x224 .f32) (r : Fin 64) (l : Fin 226) :
    slab0 t x (ix2 r l) = if h : 1 ≤ (l : ℕ) ∧ (l : ℕ) < 225 then
      x (ix4 (0 : Fin 1) r (0 : Fin 1) (⟨l - 1, by omega⟩ : Fin 224)) * inRows t else 0 := by
  pointwise [slab0, k0_pay4]
  by_cases h : 1 ≤ (l : ℕ) ∧ (l : ℕ) < 225
  · rw [dif_pos h, dif_neg (by omega), dif_pos (by omega)]
  · rw [dif_neg h]
    split_ifs <;> first | rfl | (exfalso; omega)

/-- The first loop's row is the spread slab. -/
theorem row0_apply (t : BitVec 32) (x : Vec Ideal S1x64x1x224 .f32) (r : Fin 192) (l : Fin 226) :
    row0 t x (ix3 (0 : Fin 1) r l) = spread64 (slab0 t x) (ix2 r l) := by
  pointwise [row0]

/-- The second loop's row is the spread slab. -/
theorem row1_apply (t : BitVec 32) (x : Vec Ideal S3x192x226 .bf16) (w : Vec Ideal S128x576 .bf16) (r : Fin 384) (l : Fin 226) :
    row1 t x w (ix3 (0 : Fin 1) r l) = spread128 (slab1 t x w) (ix2 r l) := by
  pointwise [row1]

/-- The third loop's row is the spread slab. -/
theorem row2_apply (t : BitVec 32) (x : Vec Ideal S3x384x226 .bf16) (w : Vec Ideal S128x1152 .bf16) (r : Fin 384) (l : Fin 226) :
    row2 t x w (ix3 (0 : Fin 1) r l) = spread128 (slab2 t x w) (ix2 r l) := by
  pointwise [row2]

/-- The mask at an index. -/
theorem mask_apply (t : BitVec 32) (r : Fin 128) (l : Fin 226) :
    mask t (ix2 r l) = (if 1 ≤ (l : ℕ) ∧ (l : ℕ) < 225 then 1 else 0) * inRows t := by
  pointwise [mask, k0_pay3]
  rw [flag_value, lane_bit]
  split_ifs <;> first | rfl | (exfalso; simp_all)

/-- The first product, masked, at an index: the sum over the 576 products. -/
theorem slab1_apply (t : BitVec 32) (x : Vec Ideal S3x192x226 .bf16) (w : Vec Ideal S128x576 .bf16) (r : Fin 128) (l : Fin 226) :
    slab1 t x w (ix2 r l) = (∑ k : Fin 576, w (ix2 r k) * x (ix3 (⟨k / 192, by omega⟩ : Fin 3) (⟨k % 192, by omega⟩ : Fin 192) l)) * mask t (ix2 r l) := by
  pointwise [slab1]

/-- The second product, masked, at an index: the sum over the 1152 products. -/
theorem slab2_apply (t : BitVec 32) (x : Vec Ideal S3x384x226 .bf16) (w : Vec Ideal S128x1152 .bf16) (r : Fin 128) (l : Fin 226) :
    slab2 t x w (ix2 r l) = (∑ k : Fin 1152, w (ix2 r k) * x (ix3 (⟨k / 384, by omega⟩ : Fin 3) (⟨k % 384, by omega⟩ : Fin 384) l)) * mask t (ix2 r l) := by
  pointwise [slab2]

/-- The last loop's row at an index. -/
theorem row3_apply (x : Vec Ideal S3x384x226 .bf16) (w : Vec Ideal S64x1152 .bf16) (r : Fin 64) (l : Fin 224) :
    row3 x w (ix4 (0 : Fin 1) r (0 : Fin 1) l) = (∑ k : Fin 1152, w (ix2 r k) * x (ix3 (⟨k / 384, by omega⟩ : Fin 3) (⟨k % 384, by omega⟩ : Fin 384) (⟨l + 1, by omega⟩ : Fin 226))) := by
  pointwise [row3]
  simp only [Nat.add_comm 1]

end Cert.Conv

end
-- ==== Proof.Spec.lean ====
/- The mathematics both programs compute: three 3x3 convolutions in a row over planes that are zero
   outside the picture. No program is mentioned here. -/
module

public import Idealize.ShloMosaic.PureOps.Ideal
public import Idealize.ShloMosaic.Lib.Pointwise

@[expose] public section

noncomputable section

namespace Cert.Conv

open Idealize.ShloMosaic Idealize.ShloMosaic.Pointwise

/-- A stack of `C` planes of extended reals, each given on the whole integer grid: channel, row, lane. -/
abbrev Plane (C : ℕ) : Type := Fin C → ℤ → ℤ → EReal

/-- The weights of one 3x3 convolution: output channel, input channel, row of the tap, lane of the tap. -/
abbrev Taps (O C : ℕ) : Type := Fin O → Fin C → Fin 3 → Fin 3 → EReal

/-- A row and a lane of the 224 by 224 picture. -/
def Inside (t l : ℤ) : Prop := 0 ≤ t ∧ t < 224 ∧ 0 ≤ l ∧ l < 224

/-- Whether a point lies in the picture can be decided. -/
instance (t l : ℤ) : Decidable (Inside t l) := by unfold Inside; infer_instance

/-- The planes cut to the picture: zero wherever the row or the lane lies outside it. -/
def framed {C : ℕ} (P : Plane C) : Plane C := fun c t l => if Inside t l then P c t l else 0

/-- One 3x3 convolution, before any cut: at every grid point the sum, over the nine taps and the input
    channels, of the tap's weight times the plane at the shifted point. -/
def conv {O C : ℕ} (w : Taps O C) (P : Plane C) : Plane O := fun o t l =>
  ∑ dy : Fin 3, ∑ dx : Fin 3, ∑ c : Fin C, w o c dy dx * P c (t + dy - 1) (l + dx - 1)

/-- Inside the picture the cut changes nothing. -/
theorem framed_inside {C : ℕ} (P : Plane C) (c : Fin C) {t l : ℤ} (h : Inside t l) :
    framed P c t l = P c t l := if_pos h

/-- Outside the picture the cut planes are zero. -/
theorem framed_outside {C : ℕ} (P : Plane C) (c : Fin C) {t l : ℤ} (h : ¬ Inside t l) :
    framed P c t l = 0 := if_neg h

/-- Three convolutions in a row, the first over the picture itself, each next one over what the one
    before left inside the picture. -/
def conv3 {C0 C1 C2 C3 : ℕ} (w1 : Taps C1 C0) (w2 : Taps C2 C1) (w3 : Taps C3 C2) (X : Plane C0) : Plane C3 :=
  conv w3 (framed (conv w2 (framed (conv w1 (framed X)))))

/-- A picture as planes, zero outside. -/
def pic {C : ℕ} (f : Fin C → Fin 224 → Fin 224 → EReal) : Plane C := fun c t l =>
  if h : Inside t l then
    f c ⟨t.toNat, by have := h.2.1; have := h.1; omega⟩ ⟨l.toNat, by have := h.2.2.2; have := h.2.2.1; omega⟩
  else 0

/-- The three convolutions in a row of a batch of pictures, as one array: batch, channel, row, lane. -/
def result (x : (⟨4, ![16, 64, 224, 224]⟩ : Shape).Idx → EReal) (w1 : (⟨4, ![128, 64, 3, 3]⟩ : Shape).Idx → EReal)
    (w2 : (⟨4, ![128, 128, 3, 3]⟩ : Shape).Idx → EReal) (w3 : (⟨4, ![64, 128, 3, 3]⟩ : Shape).Idx → EReal) :
    (⟨4, ![16, 64, 224, 224]⟩ : Shape).Idx → EReal := fun y =>
  conv3 (fun o c dy dx => w1 (ix4 o c dy dx)) (fun o c dy dx => w2 (ix4 o c dy dx)) (fun o c dy dx => w3 (ix4 o c dy dx))
    (pic fun c t l => x (ix4 (y 0 : Fin 16) c t l)) (y 1 : Fin 64) (((y 2 : Fin 224) : ℕ) : ℤ) (((y 3 : Fin 224) : ℕ) : ℤ)

end Cert.Conv

end
-- ==== Proof.Products.lean ====
/- A product of a weight matrix with three spread rows is one 3x3 convolution at a row. -/
module

public import proofs.«01_k».proof.Proof.Spec
public import Idealize.ShloMosaic.Lib.Pointwise

@[expose] public section

noncomputable section

namespace Cert.Conv

open Idealize.ShloMosaic Idealize.ShloMosaic.TcCoe Idealize.SL.Sem
open Idealize.ShloMosaic.Pointwise

/-- The column of a weight matrix that holds tap `(dy, dx)` of channel `c`. -/
theorem column_lt {C A n : ℕ} (hA : A = 3 * C) (hn : n = 3 * A) (dy dx : Fin 3) (c : Fin C) :
    (dy : ℕ) * A + dx * C + c < n := by
  have h1 : (dy : ℕ) * A ≤ 2 * A := Nat.mul_le_mul_right A (by omega)
  have h2 : (dx : ℕ) * C ≤ 2 * C := Nat.mul_le_mul_right C (by omega)
  omega

/-- The taps a matrix of `O` rows and `3 * 3 * C` columns holds. -/
def tapsOf {O C A n : ℕ} (hA : A = 3 * C) (hn : n = 3 * A) (w : (⟨2, ![O, n]⟩ : Shape).Idx → EReal) : Taps O C :=
  fun o c dy dx => w (ix2 o (⟨dy * A + dx * C + c, column_lt hA hn dy dx c⟩ : Fin n))

/-- A sum over the columns of a weight matrix is a sum over the taps and the channels. -/
theorem sum_columns {C A n : ℕ} (hA : A = 3 * C) (hn : n = 3 * A) (g : Fin n → EReal) :
    ∑ k : Fin n, g k = ∑ dy : Fin 3, ∑ dx : Fin 3, ∑ c : Fin C, g ⟨dy * A + dx * C + c, column_lt hA hn dy dx c⟩ := by
  subst hn; subst hA
  rw [← finProdFinEquiv.sum_comp, Fintype.sum_prod_type]
  refine Finset.sum_congr rfl fun dy _ => ?_
  rw [← finProdFinEquiv.sum_comp, Fintype.sum_prod_type]
  refine Finset.sum_congr rfl fun dx _ => Finset.sum_congr rfl fun c _ => congrArg g (Fin.ext ?_)
  show (c : ℕ) + C * dx + 3 * C * dy = dy * (3 * C) + dx * C + c
  ring

/-- The lane `l` of copy `j` of a spread row reads, on the 226 lanes taken around. -/
theorem lane_around (l j : ℕ) (h1 : 1 ≤ l) (h2 : l < 225) (hj : j < 3) :
    (((l + j + 225) % 226 : ℕ) : ℤ) - 1 = (l : ℤ) - 1 + j - 1 := by omega

/-- At an inner lane the product of the weights with three spread rows of the planes `P` around row `t`
    is the convolution of `P` at row `t`. -/
theorem product_eq_conv {O C A n : ℕ} (hA : A = 3 * C) (hn : n = 3 * A) (hC : 0 < C)
    (w : (⟨2, ![O, n]⟩ : Shape).Idx → EReal) (x : (⟨3, ![3, A, 226]⟩ : Shape).Idx → EReal) (P : Plane C) (t : ℤ)
    (hx : ∀ (d : Fin 3) (r : Fin A) (l : Fin 226), x (ix3 d r l)
      = P ⟨r % C, Nat.mod_lt _ hC⟩ (t + d - 1) ((((l : ℕ) + (r : ℕ) / C + 225) % 226 : ℕ) - 1))
    (f : Fin n → Fin 3) (hf : ∀ k, (f k : ℕ) = k / A) (g : Fin n → Fin A) (hg : ∀ k, (g k : ℕ) = k % A)
    (o : Fin O) (l : Fin 226) (h1 : 1 ≤ (l : ℕ)) (h2 : (l : ℕ) < 225) :
    ∑ k : Fin n, w (ix2 o k) * x (ix3 (f k) (g k) l) = conv (tapsOf hA hn w) P o t ((l : ℤ) - 1) := by
  rw [sum_columns hA hn]
  refine Finset.sum_congr rfl fun dy _ => Finset.sum_congr rfl fun dx _ => Finset.sum_congr rfl fun c _ => ?_
  have hc : (c : ℕ) < C := c.isLt
  have hcol : (dx : ℕ) * C + c < A := by
    have h2 : (dx : ℕ) * C ≤ 2 * C := Nat.mul_le_mul_right C (by omega)
    omega
  set k : Fin n := ⟨dy * A + dx * C + c, column_lt hA hn dy dx c⟩ with hk
  have hkA : (k : ℕ) = dx * C + c + A * dy := by show (dy : ℕ) * A + dx * C + c = _; ring
  have hfk : f k = dy := by
    apply Fin.ext
    rw [hf, hkA, Nat.add_mul_div_left _ _ (by omega), Nat.div_eq_of_lt hcol, Nat.zero_add]
  have hgk : (g k : ℕ) = dx * C + c := by
    rw [hg, hkA, Nat.add_mul_mod_self_left, Nat.mod_eq_of_lt hcol]
  have hmod : (g k : ℕ) % C = c := by
    rw [hgk, Nat.mul_comm, Nat.mul_add_mod, Nat.mod_eq_of_lt hc]
  have hdiv : (g k : ℕ) / C = dx := by
    rw [hgk, Nat.mul_comm, Nat.mul_add_div hC, Nat.div_eq_of_lt hc, Nat.add_zero]
  rw [hx, hfk]
  refine congrArg (tapsOf hA hn w o c dy dx * ·) ?_
  have e1 : (⟨(g k : ℕ) % C, Nat.mod_lt _ hC⟩ : Fin C) = c := Fin.ext hmod
  rw [e1, hdiv, lane_around l dx h1 h2 dx.isLt]

end Cert.Conv

end
-- ==== Proof.Content.lean ====
/- What the three scratch buffers and the result block hold after the body, at one grid point. -/
module

public import proofs.«01_k».proof.Proof.Witness
public import proofs.«01_k».proof.Proof.Rows
public import proofs.«01_k».proof.Proof.Products

@[expose] public section

noncomputable section

namespace Cert.Conv

open Cert.KernelIdeal Cert.KernelIdeal.Gen Idealize.ShloMosaic Idealize.ShloMosaic.TcCoe Idealize.SL.Sem
open Idealize.ShloMosaic.Pointwise

/-- What a buffer of spread rows holds: row `k` holds the planes' row `t0 + k`, in three copies turned by
    one lane each, on lanes `-1` to `224` of the picture. -/
def held {N A C : ℕ} (hC : 0 < C) (P : Plane C) (t0 : ℤ) : (⟨3, ![N, A, 226]⟩ : Shape).Idx → EReal := fun y =>
  P ⟨(y 1 : ℕ) % C, Nat.mod_lt _ hC⟩ (t0 + (y 0 : ℕ)) ((((y 2 : ℕ) + (y 1 : ℕ) / C + 225) % 226 : ℕ) - 1)

/-- The picture row the first loop loads is the strip's row, where that is a row of the picture. -/
theorem offset_word : ∀ (s : Fin 7) (k : Fin 38), 3 ≤ 32 * (s : ℕ) + k → 32 * (s : ℕ) + k < 227 →
    (Scalar.indexCast (Scalar.minsi 223#32 (Scalar.maxsi 0#32 (Scalar.subi
      (Scalar.addi (Scalar.muli (BitVec.ofNat 32 (s : ℕ)) 32#32) (BitVec.ofNat 32 (k : ℕ))) 3#32)))).toNat
      = 32 * (s : ℕ) + k - 3 := by decide +kernel

section

variable (i : grid0.Coords)
  (arg2 : Memref sig .tc .vmem S1x64x224x224 .f32) (harg2 : arg2.IsWhole)
  (arg3 : Memref sig .tc .vmem S128x576 .bf16) (harg3 : arg3.IsWhole)
  (arg4 : Memref sig .tc .vmem S128x1152 .bf16) (harg4 : arg4.IsWhole)
  (arg5 : Memref sig .tc .vmem S64x1152 .bf16) (harg5 : arg5.IsWhole)
  (arg7 : Memref sig .tc .vmem S38x192x226 .bf16)
  (arg8 : Memref sig .tc .vmem S36x384x226 .bf16)
  (arg9 : Memref sig .tc .vmem S34x384x226 .bf16)
  (x0 : Vec Ideal S1x64x224x224 .f32) (x1 : Vec Ideal S128x576 .bf16)
  (x2 : Vec Ideal S128x1152 .bf16) (x3 : Vec Ideal S64x1152 .bf16)

/-- The first convolution's loaded weights are the whole weight block. -/
theorem weights1_eq : weights1 arg3 harg3 x1 = x1 := by
  unfold weights1
  rw [View.readAt_eq_ld, harg3.read_unread]
  exact View.ld_unit_zero (by funext a; fin_cases a <;> rfl) _ _

/-- The second convolution's loaded weights are the whole weight block. -/
theorem weights2_eq : weights2 arg4 harg4 x2 = x2 := by
  unfold weights2
  rw [View.readAt_eq_ld, harg4.read_unread]
  exact View.ld_unit_zero (by funext a; fin_cases a <;> rfl) _ _

/-- The third convolution's loaded weights are the whole weight block. -/
theorem weights3_eq : weights3 arg5 harg5 x3 = x3 := by
  unfold weights3
  rw [View.readAt_eq_ld, harg5.read_unread]
  exact View.ld_unit_zero (by funext a; fin_cases a <;> rfl) _ _

/-- The first row of the grid point's strip. -/
def top : ℤ := 32 * ((i 1 : ℕ) : ℤ)

/-- The planes of the point's block of the picture. -/
def plane0 : Plane 64 := framed (pic fun c t l => x0 (ix4 (0 : Fin 1) c t l))

/-- What the first convolution makes of the point's block, cut to the picture. -/
def plane1 : Plane 128 := framed (conv (tapsOf (C := 64) (A := 192) (n := 576) rfl rfl x1) (plane0 x0))
/-- What the second convolution makes of that, cut to the picture. -/
def plane2 : Plane 128 := framed (conv (tapsOf (C := 128) (A := 384) (n := 1152) rfl rfl x2) (plane1 x0 x1))
/-- What the third convolution makes of that. -/
def plane3 : Plane 64 := conv (tapsOf (C := 128) (A := 384) (n := 1152) rfl rfl x3) (plane2 x0 x1 x2)

/-- A first-loop slab, lane by lane: the block's planes at the strip's row. -/
theorem slab0_eq (k : ℕ) (hk : k < 38) (r : Fin 64) (l : Fin 226) :
    slab0 (rowWord i k 3) (View.readAt (Elt Ideal) arg2.view (Rect.unit (s := S1x64x224x224)
      (k0_off1 i (BitVec.ofNat 32 k)) S1x64x1x224.size (k0_off1_inb i ⟨k, hk⟩)).toLoadRect (harg2.unread x0)) (ix2 r l)
      = plane0 x0 r (top i - 3 + k) ((l : ℤ) - 1) := by
  rw [slab0_apply, inRows_value i k 3 hk (by omega)]
  have hs : (i 1 : ℕ) < 7 := (i 1).isLt
  unfold plane0 top
  by_cases hl : 1 ≤ (l : ℕ) ∧ (l : ℕ) < 225
  · rw [dif_pos hl]
    by_cases ht : 0 ≤ (32 * ((i 1 : ℕ) : ℤ) + k - (3 : ℕ)) ∧ (32 * ((i 1 : ℕ) : ℤ) + k - (3 : ℕ)) < 224
    · have hin : Inside (32 * ((i 1 : ℕ) : ℤ) - 3 + k) ((l : ℤ) - 1) := ⟨by omega, by omega, by omega, by omega⟩
      rw [if_pos ht, framed_inside _ _ hin, mul_one]
      unfold pic
      rw [dif_pos hin, View.readAt_eq_ld, harg2.read_unread]
      show x0 _ = x0 _
      congr 1
      funext a; apply Fin.ext; fin_cases a
      · rfl
      · show 0 + 1 * (r : ℕ) = r; omega
      · show k0_off1 i (BitVec.ofNat 32 k) 2 + 1 * 0 = (32 * ((i 1 : ℕ) : ℤ) - 3 + k).toNat
        rw [show k0_off1 i (BitVec.ofNat 32 k) 2 = 32 * (i 1 : ℕ) + k - 3 from
          offset_word (i 1) ⟨k, hk⟩ (by show 3 ≤ 32 * (i 1 : ℕ) + k; omega) (by show 32 * (i 1 : ℕ) + k < 227; omega)]
        omega
      · show 0 + 1 * ((l : ℕ) - 1) = ((l : ℤ) - 1).toNat; omega
    · rw [if_neg ht, mul_zero, framed_outside _ _ (fun h => ht ⟨by have := h.1; omega, by have := h.2.1; omega⟩)]
  · rw [dif_neg hl, framed_outside _ _ (fun h => hl ⟨by have := h.2.2.1; omega, by have := h.2.2.2; omega⟩)]

/-- The first scratch buffer's rows. -/
theorem rows0_eq (k : ℕ) (hk : k < 38) (r : Fin 192) (l : Fin 226) :
    rows0 i arg2 harg2 x0 k hk (ix3 (0 : Fin 1) r l)
      = held (N := 38) (A := 192) (C := 64) (by omega) (plane0 x0) (top i - 3) (ix3 (⟨k, hk⟩ : Fin 38) r l) := by
  unfold rows0
  rw [row0_apply, spread64_apply, slab0_eq _ _ _ _ k hk]
  rfl

/-- Three rows of the first scratch buffer. -/
theorem window0_eq (k : ℕ) (hk : k < 36) (d : Fin 3) (r : Fin 192) (l : Fin 226) :
    window0 i arg2 harg2 arg7 x0 k hk (ix3 d r l)
      = plane0 x0 ⟨r % 64, Nat.mod_lt _ (by omega)⟩ (top i - 2 + k + d - 1) ((((l : ℕ) + (r : ℕ) / 64 + 225) % 226 : ℕ) - 1) := by
  refine (readCov_strips arg7.view _
    (held (N := 38) (A := 192) (C := 64) (by omega) (plane0 x0) (top i - 3)) (fun k hk r l => rows0_eq i arg2 harg2 x0 k hk r l) (k := k) (m := 3) (by omega) d r l).trans ?_
  show plane0 x0 _ (top i - 3 + ((k + d : ℕ) : ℤ)) _ = _
  rw [show top i - 3 + ((k + d : ℕ) : ℤ) = top i - 2 + k + d - 1 by push_cast; ring]
  rfl

/-- A masked product is the framed convolution, lane by lane. -/
theorem masked_eq {C : ℕ} (P : Plane C) (c : Fin C) (k off : ℕ) (hk : k < 38) (ho : off < 4) (l : Fin 226) (o : Fin 128) (S : EReal)
    (hS : 1 ≤ (l : ℕ) → (l : ℕ) < 225 → S = P c (top i - off + k) ((l : ℤ) - 1)) :
    S * mask (rowWord i k off) (ix2 o l) = framed P c (top i - off + k) ((l : ℤ) - 1) := by
  rw [mask_apply, inRows_value i k off hk ho]
  unfold top at *
  by_cases hl : 1 ≤ (l : ℕ) ∧ (l : ℕ) < 225
  · rw [if_pos hl]
    by_cases ht : 0 ≤ (32 * ((i 1 : ℕ) : ℤ) + k - off) ∧ (32 * ((i 1 : ℕ) : ℤ) + k - off) < 224
    · rw [if_pos ht, mul_one, mul_one, framed_inside _ _ ⟨by omega, by omega, by omega, by omega⟩, hS hl.1 hl.2]
    · rw [if_neg ht, mul_zero, mul_zero, framed_outside _ _ (fun h => ht ⟨by have := h.1; omega, by have := h.2.1; omega⟩)]
  · rw [if_neg hl, zero_mul, mul_zero, framed_outside _ _ (fun h => hl ⟨by have := h.2.2.1; omega, by have := h.2.2.2; omega⟩)]

/-- The second scratch buffer's rows. -/
theorem rows1_eq (k : ℕ) (hk : k < 36) (r : Fin 384) (l : Fin 226) :
    rows1 i arg2 harg2 arg3 harg3 arg7 x0 x1 k hk (ix3 (0 : Fin 1) r l)
      = held (N := 36) (A := 384) (C := 128) (by omega) (plane1 x0 x1) (top i - 2) (ix3 (⟨k, hk⟩ : Fin 36) r l) := by
  unfold rows1
  rw [row1_apply, spread128_apply, slab1_apply, weights1_eq]
  refine (masked_eq i _ _ k 2 (by omega) (by omega) _ _ _ (fun h1 h2 => ?_)).trans rfl
  exact product_eq_conv (C := 64) (A := 192) (n := 576) rfl rfl (by omega) x1 _ (plane0 x0) (top i - 2 + k)
    (fun d r l => window0_eq i arg2 harg2 arg7 x0 k hk d r l) _ (fun _ => rfl) _ (fun _ => rfl) _ _ h1 h2

/-- Three rows of the second scratch buffer. -/
theorem window1_eq (k : ℕ) (hk : k < 34) (d : Fin 3) (r : Fin 384) (l : Fin 226) :
    window1 i arg2 harg2 arg3 harg3 arg7 arg8 x0 x1 k hk (ix3 d r l)
      = plane1 x0 x1 ⟨r % 128, Nat.mod_lt _ (by omega)⟩ (top i - 1 + k + d - 1) ((((l : ℕ) + (r : ℕ) / 128 + 225) % 226 : ℕ) - 1) := by
  refine (readCov_strips arg8.view _
    (held (N := 36) (A := 384) (C := 128) (by omega) (plane1 x0 x1) (top i - 2)) (fun k hk r l => rows1_eq i arg2 harg2 arg3 harg3 arg7 x0 x1 k hk r l)
    (k := k) (m := 3) (by omega) d r l).trans ?_
  show plane1 x0 x1 _ (top i - 2 + ((k + d : ℕ) : ℤ)) _ = _
  rw [show top i - 2 + ((k + d : ℕ) : ℤ) = top i - 1 + k + d - 1 by push_cast; ring]
  rfl

/-- The third scratch buffer's rows. -/
theorem rows2_eq (k : ℕ) (hk : k < 34) (r : Fin 384) (l : Fin 226) :
    rows2 i arg2 harg2 arg3 harg3 arg4 harg4 arg7 arg8 x0 x1 x2 k hk (ix3 (0 : Fin 1) r l)
      = held (N := 34) (A := 384) (C := 128) (by omega) (plane2 x0 x1 x2) (top i - 1) (ix3 (⟨k, hk⟩ : Fin 34) r l) := by
  unfold rows2
  rw [row2_apply, spread128_apply, slab2_apply, weights2_eq]
  refine (masked_eq i _ _ k 1 (by omega) (by omega) _ _ _ (fun h1 h2 => ?_)).trans rfl
  exact product_eq_conv (C := 128) (A := 384) (n := 1152) rfl rfl (by omega) x2 _ (plane1 x0 x1) (top i - 1 + k)
    (fun d r l => window1_eq i arg2 harg2 arg3 harg3 arg7 arg8 x0 x1 k hk d r l) _ (fun _ => rfl) _ (fun _ => rfl) _ _ h1 h2

/-- Three rows of the third scratch buffer. -/
theorem window2_eq (k : ℕ) (hk : k < 32) (d : Fin 3) (r : Fin 384) (l : Fin 226) :
    window2 i arg2 harg2 arg3 harg3 arg4 harg4 arg7 arg8 arg9 x0 x1 x2 k hk (ix3 d r l)
      = plane2 x0 x1 x2 ⟨r % 128, Nat.mod_lt _ (by omega)⟩ (top i + k + d - 1) ((((l : ℕ) + (r : ℕ) / 128 + 225) % 226 : ℕ) - 1) := by
  refine (readCov_strips arg9.view _
    (held (N := 34) (A := 384) (C := 128) (by omega) (plane2 x0 x1 x2) (top i - 1)) (fun k hk r l => rows2_eq i arg2 harg2 arg3 harg3 arg4 harg4 arg7 arg8 x0 x1 x2 k hk r l)
    (k := k) (m := 3) (by omega) d r l).trans ?_
  show plane2 x0 x1 x2 _ (top i - 1 + ((k + d : ℕ) : ℤ)) _ = _
  rw [show top i - 1 + ((k + d : ℕ) : ℤ) = top i + k + d - 1 by push_cast; ring]
  rfl

/-- The result block's rows: the third convolution at the strip's rows. -/
theorem rows3_eq (k : ℕ) (hk : k < 32) (o : Fin 64) (l : Fin 224) :
    rows3 i arg2 harg2 arg3 harg3 arg4 harg4 arg5 harg5 arg7 arg8 arg9 x0 x1 x2 x3 k hk (ix4 (0 : Fin 1) o (0 : Fin 1) l)
      = plane3 x0 x1 x2 x3 o (top i + k) (l : ℤ) := by
  unfold rows3
  rw [row3_apply, weights3_eq]
  refine (product_eq_conv (C := 128) (A := 384) (n := 1152) rfl rfl (by omega) x3 _ (plane2 x0 x1 x2) (top i + k)
    (fun d r l => window2_eq i arg2 harg2 arg3 harg3 arg4 harg4 arg7 arg8 arg9 x0 x1 x2 k hk d r l) _ (fun _ => rfl) _
    (fun _ => rfl) o ⟨l + 1, by omega⟩ (by show 1 ≤ (l : ℕ) + 1; omega) (by show (l : ℕ) + 1 < 225; omega)).trans ?_
  show plane3 x0 x1 x2 x3 o (top i + k) ((((l : ℕ) + 1 : ℕ) : ℤ) - 1) = _
  rw [show (((l : ℕ) + 1 : ℕ) : ℤ) - 1 = l by push_cast; ring]

end

/-- The result block after the body: the third convolution of the point's block at the strip's 32 rows. -/
theorem out_eq (c : Dev nD) (i : grid0.Coords)
    (arg2 : Memref sig .tc .vmem S1x64x224x224 .f32) (harg2 : arg2.IsWhole)
    (arg3 : Memref sig .tc .vmem S128x576 .bf16) (harg3 : arg3.IsWhole)
    (arg4 : Memref sig .tc .vmem S128x1152 .bf16) (harg4 : arg4.IsWhole)
    (arg5 : Memref sig .tc .vmem S64x1152 .bf16) (harg5 : arg5.IsWhole)
    (arg6 : Memref sig .tc .vmem S1x64x32x224 .f32) (harg6 : arg6.IsWhole)
    (arg7 : Memref sig .tc .vmem S38x192x226 .bf16) (harg7 : arg7.IsWhole)
    (arg8 : Memref sig .tc .vmem S36x384x226 .bf16) (harg8 : arg8.IsWhole)
    (arg9 : Memref sig .tc .vmem S34x384x226 .bf16) (harg9 : arg9.IsWhole)
    (x0 : Vec Ideal S1x64x224x224 .f32) (x1 : Vec Ideal S128x576 .bf16)
    (x2 : Vec Ideal S128x1152 .bf16) (x3 : Vec Ideal S64x1152 .bf16) :
    out0_A_4 (F := Ideal) c i arg2 harg2 arg3 harg3 arg4 harg4 arg5 harg5 arg6 harg6 arg7 harg7 arg8 harg8 arg9 harg9 x0 x1 x2 x3
      = fun y => plane3 x0 x1 x2 x3 (y 1) (top i + (y 2 : ℕ)) ((y 3 : ℕ) : ℤ) := by
  unfold out0_A_4
  rw [View.read_writes_eq_canon _ _ _ (cover0_A_4 c _ _ _ _ _ _ _ _ _ _ _ _ _ _ _ _ _ _ _ _ _), stores3]
  exact canon_lines (C := 64) (N := 32) (B := 224) (e := .f32) _ (fun y => plane3 x0 x1 x2 x3 (y 1) (top i + (y 2 : ℕ)) ((y 3 : ℕ) : ℤ))
    (fun k hk o l => rows3_eq i arg2 harg2 arg3 harg3 arg4 harg4 arg5 harg5 arg7 arg8 arg9 x0 x1 x2 x3 k hk o l)

end Cert.Conv

end
-- ==== Proof.Array.lean ====
/- What the kernel's result array holds after the run. -/
module

public import proofs.«01_k».proof.Proof.Content
public import Idealize.ShloMosaic.Lib.Pipeline.ValueKit

@[expose] public section

noncomputable section

namespace Cert.Conv

open Cert.KernelIdeal Cert.KernelIdeal.Gen Idealize.ShloMosaic Idealize.ShloMosaic.TcCoe Idealize.SL.Sem
open Idealize.ShloMosaic.Pointwise
open Idealize.ShloMosaic.Pipeline (Dat)

/-- Which block of the result each grid point writes, and which block of the picture it reads. -/
theorem index_facts : ∀ t : Fin cfg0.N,
    (win0_4.index t 0 = (grid0.coords t 0 : ℕ) ∧ win0_4.index t 1 = 0 ∧ win0_4.index t 2 = (grid0.coords t 1 : ℕ) ∧ win0_4.index t 3 = 0)
    ∧ (win0_0.index t 0 = (grid0.coords t 0 : ℕ) ∧ win0_0.index t 1 = 0 ∧ win0_0.index t 2 = 0 ∧ win0_0.index t 3 = 0) :=
  (by decide +kernel : ∀ t : Fin grid0.N,
    (win0_4.index t 0 = (grid0.coords t 0 : ℕ) ∧ win0_4.index t 1 = 0 ∧ win0_4.index t 2 = (grid0.coords t 1 : ℕ) ∧ win0_4.index t 3 = 0)
    ∧ (win0_0.index t 0 = (grid0.coords t 0 : ℕ) ∧ win0_0.index t 1 = 0 ∧ win0_0.index t 2 = 0 ∧ win0_0.index t 3 = 0))

/-- Every pair of a picture and a strip is a grid point's. -/
theorem point_of : ∀ (n : Fin 16) (s : Fin 7), ∃ t : Fin cfg0.N, (grid0.coords t 0 : ℕ) = n ∧ (grid0.coords t 1 : ℕ) = s :=
  (by decide +kernel : ∀ (n : Fin 16) (s : Fin 7), ∃ t : Fin grid0.N, (grid0.coords t 0 : ℕ) = n ∧ (grid0.coords t 1 : ℕ) = s)

variable (m : (ℓ : Loc nD τ sig) → Buf (Elt Ideal) ℓ) (c : Dev nD)

/-- The block of the picture a grid point reads is its batch's picture. -/
theorem picture_eq (t : Fin cfg0.N) (ch : Fin 64) (r l : Fin 224) :
    iblk m c 0 t (ix4 (0 : Fin 1) ch r l) = m ((c : Thread nD τ).loc main_arg0) (ix4 (grid0.coords t 0 : Fin 16) ch r l) := by
  obtain ⟨-, h0, h1, h2, h3⟩ := index_facts t
  unfold iblk
  rw [show V m c (Pipeline.arrRef spec0 0) = _ from V_main_arg0 m c]
  show m ((c : Thread nD τ).loc main_arg0) ((win0_0.rect t).emb (ix4 (0 : Fin 1) ch r l)) = _
  congr 1
  funext a; apply Fin.ext
  rw [Pipeline.Window.rect_emb_val_off win0_0 t]
  fin_cases a
  · show win0_0.index t 0 * 1 + 0 = (grid0.coords t 0 : ℕ); omega
  · show win0_0.index t 1 * 64 + (ch : ℕ) = ch; omega
  · show win0_0.index t 2 * 224 + (r : ℕ) = r; omega
  · show win0_0.index t 3 * 224 + (l : ℕ) = l; omega

/-- Where an element of a grid point's result block sits in the result. -/
theorem place_eq (t : Fin cfg0.N) (y : S1x64x32x224.Idx) (a : Fin 4) :
    (((cfg0.win 4).blk t).view.emb y a : ℕ)
      = (![(grid0.coords t 0 : ℕ), (y 1 : ℕ), 32 * (grid0.coords t 1 : ℕ) + (y 2 : ℕ), (y 3 : ℕ)] : Fin 4 → ℕ) a := by
  obtain ⟨⟨h0, h1, h2, h3⟩, -⟩ := index_facts t
  refine (Pipeline.Window.rect_emb_val_off win0_4 t y a).trans ?_
  fin_cases a
  · have h : (y 0 : ℕ) < 1 := (y 0).isLt
    show win0_4.index t 0 * 1 + (y 0 : ℕ) = (grid0.coords t 0 : ℕ); omega
  · show win0_4.index t 1 * 64 + (y 1 : ℕ) = (y 1 : ℕ); omega
  · show win0_4.index t 2 * 32 + (y 2 : ℕ) = 32 * (grid0.coords t 1 : ℕ) + (y 2 : ℕ); omega
  · show win0_4.index t 3 * 224 + (y 3 : ℕ) = (y 3 : ℕ); omega

/-- Weight window 1 is the whole array at every grid point. -/
theorem whole_facts1 : ∀ t : Fin cfg0.N, win0_1.index t 0 = 0 ∧ win0_1.index t 1 = 0 :=
  (by decide +kernel : ∀ t : Fin grid0.N, win0_1.index t 0 = 0 ∧ win0_1.index t 1 = 0)

/-- Weight window 2 is the whole array at every grid point. -/
theorem whole_facts2 : ∀ t : Fin cfg0.N, win0_2.index t 0 = 0 ∧ win0_2.index t 1 = 0 :=
  (by decide +kernel : ∀ t : Fin grid0.N, win0_2.index t 0 = 0 ∧ win0_2.index t 1 = 0)

/-- Weight window 3 is the whole array at every grid point. -/
theorem whole_facts3 : ∀ t : Fin cfg0.N, win0_3.index t 0 = 0 ∧ win0_3.index t 1 = 0 :=
  (by decide +kernel : ∀ t : Fin grid0.N, win0_3.index t 0 = 0 ∧ win0_3.index t 1 = 0)

/-- The first weight matrix the kernel is handed holds the first weights, tap by tap. -/
theorem taps1_eq (t : Fin cfg0.N) :
    tapsOf (O := 128) (C := 64) (A := 192) (n := 576) rfl rfl (iblk m c 1 t)
      = fun o ch dy dx => m ((c : Thread nD τ).loc main_arg1) (ix4 o ch dy dx) := by
  have hV : (V m c main_v2 : S128x576.Idx → EReal) = truncf (F := Ideal) .bf16 (shapeCast S128x576
      (transpose S128x3x3x64 [0, 2, 3, 1] (m ((c : Thread nD τ).loc main_arg1) : FVec Ideal S128x64x3x3 .f32)
        transposes_S128x64x3x3_S128x3x3x64_0_2_3_1 : FVec Ideal S128x3x3x64 .f32)
      shapeCasts_S128x3x3x64_S128x576) bitsLt_bf16_f32 := by
    dsimp only [V, hostOps0]
    after_results
    rfl
  have hb : iblk m c 1 t = (V m c main_v2 : S128x576.Idx → EReal) := by
    unfold iblk
    funext y
    show V m c main_v2 ((win0_1.rect t).emb y) = _
    congr 1
    funext a; apply Fin.ext
    rw [Pipeline.Window.rect_emb_val_off win0_1 t]
    obtain ⟨h0, h1⟩ := whole_facts1 t
    fin_cases a
    · show win0_1.index t 0 * 128 + (y 0 : ℕ) = y 0; omega
    · show win0_1.index t 1 * 576 + (y 1 : ℕ) = y 1; omega
  funext o ch dy dx
  unfold tapsOf
  rw [hb, hV]
  pointwise []

/-- The second weight matrix the kernel is handed holds the second weights, tap by tap. -/
theorem taps2_eq (t : Fin cfg0.N) :
    tapsOf (O := 128) (C := 128) (A := 384) (n := 1152) rfl rfl (iblk m c 2 t)
      = fun o ch dy dx => m ((c : Thread nD τ).loc main_arg2) (ix4 o ch dy dx) := by
  have hV : (V m c main_v5 : S128x1152.Idx → EReal) = truncf (F := Ideal) .bf16 (shapeCast S128x1152
      (transpose S128x3x3x128 [0, 2, 3, 1] (m ((c : Thread nD τ).loc main_arg2) : FVec Ideal S128x128x3x3 .f32)
        transposes_S128x128x3x3_S128x3x3x128_0_2_3_1 : FVec Ideal S128x3x3x128 .f32)
      shapeCasts_S128x3x3x128_S128x1152) bitsLt_bf16_f32 := by
    dsimp only [V, hostOps0]
    after_results
    rfl
  have hb : iblk m c 2 t = (V m c main_v5 : S128x1152.Idx → EReal) := by
    unfold iblk
    funext y
    show V m c main_v5 ((win0_2.rect t).emb y) = _
    congr 1
    funext a; apply Fin.ext
    rw [Pipeline.Window.rect_emb_val_off win0_2 t]
    obtain ⟨h0, h1⟩ := whole_facts2 t
    fin_cases a
    · show win0_2.index t 0 * 128 + (y 0 : ℕ) = y 0; omega
    · show win0_2.index t 1 * 1152 + (y 1 : ℕ) = y 1; omega
  funext o ch dy dx
  unfold tapsOf
  rw [hb, hV]
  pointwise []

/-- The third weight matrix the kernel is handed holds the third weights, tap by tap. -/
theorem taps3_eq (t : Fin cfg0.N) :
    tapsOf (O := 64) (C := 128) (A := 384) (n := 1152) rfl rfl (iblk m c 3 t)
      = fun o ch dy dx => m ((c : Thread nD τ).loc main_arg3) (ix4 o ch dy dx) := by
  have hV : (V m c main_v8 : S64x1152.Idx → EReal) = truncf (F := Ideal) .bf16 (shapeCast S64x1152
      (transpose S64x3x3x128 [0, 2, 3, 1] (m ((c : Thread nD τ).loc main_arg3) : FVec Ideal S64x128x3x3 .f32)
        transposes_S64x128x3x3_S64x3x3x128_0_2_3_1 : FVec Ideal S64x3x3x128 .f32)
      shapeCasts_S64x3x3x128_S64x1152) bitsLt_bf16_f32 := by
    dsimp only [V, hostOps0]
    after_results
    rfl
  have hb : iblk m c 3 t = (V m c main_v8 : S64x1152.Idx → EReal) := by
    unfold iblk
    funext y
    show V m c main_v8 ((win0_3.rect t).emb y) = _
    congr 1
    funext a; apply Fin.ext
    rw [Pipeline.Window.rect_emb_val_off win0_3 t]
    obtain ⟨h0, h1⟩ := whole_facts3 t
    fin_cases a
    · show win0_3.index t 0 * 64 + (y 0 : ℕ) = y 0; omega
    · show win0_3.index t 1 * 1152 + (y 1 : ℕ) = y 1; omega
  funext o ch dy dx
  unfold tapsOf
  rw [hb, hV]
  pointwise []

/-- Three convolutions of a grid point's block are those of its picture. -/
theorem plane3_eq (t : Fin cfg0.N) (o : Fin 64) (r l : ℤ) :
    plane3 (iblk m c 0 t) (iblk m c 1 t) (iblk m c 2 t) (iblk m c 3 t) o r l
      = conv3 (fun o ch dy dx => m ((c : Thread nD τ).loc main_arg1) (ix4 o ch dy dx))
          (fun o ch dy dx => m ((c : Thread nD τ).loc main_arg2) (ix4 o ch dy dx))
          (fun o ch dy dx => m ((c : Thread nD τ).loc main_arg3) (ix4 o ch dy dx))
          (pic fun ch r l => m ((c : Thread nD τ).loc main_arg0) (ix4 (grid0.coords t 0 : Fin 16) ch r l)) o r l := by
  unfold plane3 plane2 plane1 plane0 conv3
  rw [taps1_eq, taps2_eq, taps3_eq]
  simp only [picture_eq]

/-- The result array after the run: the three convolutions in a row of the batch of pictures. -/
theorem array_eq : (dats m 0 c).arrAt 4 cfg0.N
    = result (m ((c : Thread nD τ).loc main_arg0)) (m ((c : Thread nD τ).loc main_arg1))
        (m ((c : Thread nD τ).loc main_arg2)) (m ((c : Thread nD τ).loc main_arg3)) := by
  refine (dats m 0 c).arrAt_eq_of_cover 4 _ (fun t _ => ?_) (fun y => ?_)
  · rw [Value.flushed4_A, out_eq]
    refine funext fun y => ?_
    have h0 : ((((cfg0.win 4).blk t).view.emb y 0 : Fin 16) : ℕ) = (grid0.coords t 0 : ℕ) := place_eq t y 0
    have h1 : ((((cfg0.win 4).blk t).view.emb y 1 : Fin 64) : ℕ) = (((y : S1x64x32x224.Idx) 1 : Fin 64) : ℕ) := place_eq t y 1
    have h2 : ((((cfg0.win 4).blk t).view.emb y 2 : Fin 224) : ℕ) = 32 * (grid0.coords t 1 : ℕ) + (((y : S1x64x32x224.Idx) 2 : Fin 32) : ℕ) :=
      place_eq t y 2
    have h3 : ((((cfg0.win 4).blk t).view.emb y 3 : Fin 224) : ℕ) = (((y : S1x64x32x224.Idx) 3 : Fin 224) : ℕ) := place_eq t y 3
    refine (plane3_eq m c t ((y : S1x64x32x224.Idx) 1 : Fin 64) _ _).trans ?_
    have e0 : (grid0.coords t 0 : Fin 16) = (((cfg0.win 4).blk t).view.emb y 0 : Fin 16) := Fin.ext h0.symm
    have e1 : ((y : S1x64x32x224.Idx) 1 : Fin 64) = (((cfg0.win 4).blk t).view.emb y 1 : Fin 64) := Fin.ext h1.symm
    have e2 : top (grid0.coords t) + ((((y : S1x64x32x224.Idx) 2 : Fin 32) : ℕ) : ℤ)
        = ((((cfg0.win 4).blk t).view.emb y 2 : Fin 224) : ℕ) := by
      rw [h2]; unfold top; push_cast; rfl
    have e3 : ((((y : S1x64x32x224.Idx) 3 : Fin 224) : ℕ) : ℤ) = ((((cfg0.win 4).blk t).view.emb y 3 : Fin 224) : ℕ) := by
      rw [h3]
    rw [e0, e1, e2, e3]
    rfl
  · obtain ⟨t, h0, h1⟩ := point_of (y 0) ⟨(y 2 : ℕ) / 32, by have : (y 2 : ℕ) < 224 := (y 2).isLt; omega⟩
    refine ⟨t, flush0_4 t, ?_⟩
    obtain ⟨⟨i0, i1, i2, i3⟩, -⟩ := index_facts t
    have hs : ((cfg0.win 4).blk t).view.set = (win0_4.rect t).set := View.set_slice_whole _ _
    rw [hs]
    refine (Pipeline.Window.mem_rect_iff win0_4 t y).2 fun a => ?_
    have y1 : (y 1 : ℕ) < 64 := (y 1).isLt
    have y3 : (y 3 : ℕ) < 224 := (y 3).isLt
    have h1' : (grid0.coords t 1 : ℕ) = (y 2 : ℕ) / 32 := h1
    fin_cases a
    · show win0_4.index t 0 * 1 ≤ (y 0 : ℕ) ∧ (y 0 : ℕ) < win0_4.index t 0 * 1 + 1; omega
    · show win0_4.index t 1 * 64 ≤ (y 1 : ℕ) ∧ (y 1 : ℕ) < win0_4.index t 1 * 64 + 64; omega
    · show win0_4.index t 2 * 32 ≤ (y 2 : ℕ) ∧ (y 2 : ℕ) < win0_4.index t 2 * 32 + 32; omega
    · show win0_4.index t 3 * 224 ≤ (y 3 : ℕ) ∧ (y 3 : ℕ) < win0_4.index t 3 * 224 + 224; omega

end Cert.Conv

end
-- ==== Proof.Reference.lean ====
/- What the reference's result array holds: three convolutions in a row, each one read off its padding
   and its nine shifted products. -/
module

public import proofs.«01_k».proof.Proof.Gen.ReferenceIdeal.Read
public import proofs.«01_k».proof.Proof.Spec

@[expose] public section

noncomputable section

namespace Cert.Conv.Ref

open Cert.ReferenceIdeal Cert.ReferenceIdeal.Gen Cert.ReferenceIdeal.Read
open Idealize.ShloMosaic Idealize.ShloMosaic.TcCoe Idealize.SL.Sem Idealize.ShloMosaic.Pointwise

/-- The nine arrays of a convolution's taps added up, row of the tap by row of the tap. -/
def nine {s : Shape} (T : Fin 3 → Fin 3 → FVec Ideal s .f32) : FVec Ideal s .f32 :=
  addf (addf (addf (addf (addf (addf (addf (addf (T 0 0) (T 0 1)) (T 0 2)) (T 1 0)) (T 1 1)) (T 1 2)) (T 2 0)) (T 2 1)) (T 2 2)

/-- Nine arrays added up, read at an index: the sum over the taps. -/
theorem nine_apply {s : Shape} (T : Fin 3 → Fin 3 → FVec Ideal s .f32) (i : s.Idx) :
    nine T i = ∑ dy : Fin 3, ∑ dx : Fin 3, (T dy dx i : EReal) := by
  rw [Fin.sum_univ_three, Fin.sum_univ_three, Fin.sum_univ_three, Fin.sum_univ_three]
  show ((T 0 0 i + T 0 1 i + T 0 2 i + T 1 0 i + T 1 1 i + T 1 2 i + T 2 0 i + T 2 1 i + T 2 2 i : EReal)) = _
  simp only [add_assoc]

/-- If every tap's array holds the product of that tap's weights with the shifted padded picture, and the
    padded picture holds the planes moved down and right by one, then the taps add up to the convolution
    of the planes. -/
theorem sum_taps {O C : ℕ} (w : Taps O C) (P : Plane C) (f : Fin C → Fin 226 → Fin 226 → EReal)
    (hf : ∀ c a b, f c a b = P c ((a : ℕ) - 1) ((b : ℕ) - 1)) (T : Fin 3 → Fin 3 → EReal) (o : Fin O) (t l : Fin 224)
    (hT : ∀ dy dx : Fin 3, T dy dx = ∑ c : Fin C, f c ⟨t + dy, by omega⟩ ⟨l + dx, by omega⟩ * w o c dy dx) :
    ∑ dy : Fin 3, ∑ dx : Fin 3, T dy dx = conv w P o (t : ℕ) (l : ℕ) := by
  unfold conv
  refine Finset.sum_congr rfl fun dy _ => Finset.sum_congr rfl fun dx _ => (hT dy dx).trans ?_
  refine Finset.sum_congr rfl fun c _ => ?_
  rw [hf, mul_comm]
  push_cast
  rfl

/-- A picture padded by one on every side, read at an index, is the picture's planes moved down and right by one. -/
theorem padded {C : ℕ} (f : Fin C → Fin 224 → Fin 224 → EReal) (c : Fin C) (a b : Fin 226) (z : EReal) (hz : z = 0) :
    (if h : (1 ≤ (a : ℕ) ∧ (a : ℕ) - 1 < 224) ∧ 1 ≤ (b : ℕ) ∧ (b : ℕ) - 1 < 224 then
      f c ⟨(a : ℕ) - 1, h.1.2⟩ ⟨(b : ℕ) - 1, h.2.2⟩ else z) = pic f c ((a : ℕ) - 1) ((b : ℕ) - 1) := by
  by_cases h : (1 ≤ (a : ℕ) ∧ (a : ℕ) - 1 < 224) ∧ 1 ≤ (b : ℕ) ∧ (b : ℕ) - 1 < 224
  · have h' : Inside (((a : ℕ) : ℤ) - 1) (((b : ℕ) : ℤ) - 1) := by unfold Inside; omega
    refine (dif_pos h).trans (Eq.trans ?_ (dif_pos h').symm)
    congr 1 <;> apply Fin.ext <;> show (_ : ℕ) - 1 = Int.toNat _ <;> omega
  · have h' : ¬ Inside (((a : ℕ) : ℤ) - 1) (((b : ℕ) : ℤ) - 1) := by unfold Inside; omega
    rw [dif_neg h, hz, pic, dif_neg h']

/-- A picture whose elements are the planes' values, as planes: the planes cut to the picture. -/
theorem pic_eq_framed {C : ℕ} (f : Fin C → Fin 224 → Fin 224 → EReal) (P : Plane C)
    (h : ∀ c (t l : Fin 224), f c t l = P c (t : ℕ) (l : ℕ)) : pic f = framed P := by
  funext c t l
  unfold pic framed
  split_ifs with hi
  · rw [h]
    obtain ⟨h0, _, h1, _⟩ := hi
    simp only [Int.toNat_of_nonneg h0, Int.toNat_of_nonneg h1]
  · rfl

/-- A picture as planes is already cut to the picture. -/
theorem framed_pic {C : ℕ} (f : Fin C → Fin 224 → Fin 224 → EReal) : framed (pic f) = pic f := by
  funext c t l
  unfold framed
  split_ifs with hi
  · rfl
  · rw [pic, dif_neg hi]

/-- The integer the host pads with, as a float, is zero. -/
theorem zero_word : (FloatOps.sitofp (F := Ideal) .f32 (0#32 : BitVec 32) : EReal) = 0 := by
  show ((((0#32 : BitVec 32).toInt : ℝ) : EReal)) = 0
  simp

/-- Every tap's window of the 64-channel padded picture lies inside it. -/
theorem window64 : ∀ dy dx : Fin 3, S16x64x226x226.Slices ![0, 0, (dy : ℕ), (dx : ℕ)] S16x64x224x224 := by decide

/-- Every tap's window of the 128-channel padded picture lies inside it. -/
theorem window128 : ∀ dy dx : Fin 3, S16x128x226x226.Slices ![0, 0, (dy : ℕ), (dx : ℕ)] S16x128x224x224 := by decide

/-- Every tap is one of the first convolution's weights. -/
theorem weight1 : ∀ dy dx : Fin 3, S128x64x3x3.Slices ![0, 0, (dy : ℕ), (dx : ℕ)] S128x64x1x1 := by decide

/-- Every tap is one of the second convolution's weights. -/
theorem weight2 : ∀ dy dx : Fin 3, S128x128x3x3.Slices ![0, 0, (dy : ℕ), (dx : ℕ)] S128x128x1x1 := by decide

/-- Every tap is one of the third convolution's weights. -/
theorem weight3 : ∀ dy dx : Fin 3, S64x128x3x3.Slices ![0, 0, (dy : ℕ), (dx : ℕ)] S64x128x1x1 := by decide

/-- One tap of the first convolution: its weights times the shifted padded picture. -/
def tap1 (xp : FVec Ideal S16x64x226x226 .f32) (w : FVec Ideal S128x64x3x3 .f32) (dy dx : Fin 3) :
    FVec Ideal S16x128x224x224 .f32 :=
  transpose S16x128x224x224 [0, 3, 1, 2] (Host.dotGeneral dot_S16x64x224x224_S128x64_S16x224x224x128_1_1_023_0_n_n none
    (extractStridedSlice S16x64x224x224 ![0, 0, (dy : ℕ), (dx : ℕ)] xp (window64 dy dx))
    (shapeCast _ (extractStridedSlice S128x64x1x1 ![0, 0, (dy : ℕ), (dx : ℕ)] w (weight1 dy dx)) shapeCasts_S128x64x1x1_S128x64))
    transposes_S16x224x224x128_S16x128x224x224_0_3_1_2

/-- One tap of the second convolution. -/
def tap2 (xp : FVec Ideal S16x128x226x226 .f32) (w : FVec Ideal S128x128x3x3 .f32) (dy dx : Fin 3) :
    FVec Ideal S16x128x224x224 .f32 :=
  transpose S16x128x224x224 [0, 3, 1, 2] (Host.dotGeneral dot_S16x128x224x224_S128x128_S16x224x224x128_1_1_023_0_n_n none
    (extractStridedSlice S16x128x224x224 ![0, 0, (dy : ℕ), (dx : ℕ)] xp (window128 dy dx))
    (shapeCast _ (extractStridedSlice S128x128x1x1 ![0, 0, (dy : ℕ), (dx : ℕ)] w (weight2 dy dx)) shapeCasts_S128x128x1x1_S128x128))
    transposes_S16x224x224x128_S16x128x224x224_0_3_1_2

/-- One tap of the third convolution. -/
def tap3 (xp : FVec Ideal S16x128x226x226 .f32) (w : FVec Ideal S64x128x3x3 .f32) (dy dx : Fin 3) :
    FVec Ideal S16x64x224x224 .f32 :=
  transpose S16x64x224x224 [0, 3, 1, 2] (Host.dotGeneral dot_S16x128x224x224_S64x128_S16x224x224x64_1_1_023_0_n_n none
    (extractStridedSlice S16x128x224x224 ![0, 0, (dy : ℕ), (dx : ℕ)] xp (window128 dy dx))
    (shapeCast _ (extractStridedSlice S64x128x1x1 ![0, 0, (dy : ℕ), (dx : ℕ)] w (weight3 dy dx)) shapeCasts_S64x128x1x1_S64x128))
    transposes_S16x224x224x64_S16x64x224x224_0_3_1_2

section

variable (n : Fin 16) (t l : Fin 224) (dy dx : Fin 3)

/-- One tap of the first convolution at an index. -/
theorem tap1_apply (xp : FVec Ideal S16x64x226x226 .f32) (w : FVec Ideal S128x64x3x3 .f32) (o : Fin 128) :
    tap1 xp w dy dx (ix4 n o t l) = ∑ c : Fin 64, xp (ix4 n c ⟨t + dy, by omega⟩ ⟨l + dx, by omega⟩) * w (ix4 o c dy dx) := by
  pointwise [tap1]
  simp only [add_comm]

/-- One tap of the second convolution at an index. -/
theorem tap2_apply (xp : FVec Ideal S16x128x226x226 .f32) (w : FVec Ideal S128x128x3x3 .f32) (o : Fin 128) :
    tap2 xp w dy dx (ix4 n o t l) = ∑ c : Fin 128, xp (ix4 n c ⟨t + dy, by omega⟩ ⟨l + dx, by omega⟩) * w (ix4 o c dy dx) := by
  pointwise [tap2]
  simp only [add_comm]

/-- One tap of the third convolution at an index. -/
theorem tap3_apply (xp : FVec Ideal S16x128x226x226 .f32) (w : FVec Ideal S64x128x3x3 .f32) (o : Fin 64) :
    tap3 xp w dy dx (ix4 n o t l) = ∑ c : Fin 128, xp (ix4 n c ⟨t + dy, by omega⟩ ⟨l + dx, by omega⟩) * w (ix4 o c dy dx) := by
  pointwise [tap3]
  simp only [add_comm]

end

section

variable (x0 : FVec Ideal S16x64x224x224 .f32) (x1 : FVec Ideal S128x64x3x3 .f32) (x2 : FVec Ideal S128x128x3x3 .f32)
  (x3 : FVec Ideal S64x128x3x3 .f32) (n : Fin 16)

/-- The first padded picture at an index. -/
theorem pad1_apply (c : Fin 64) (a b : Fin 226) :
    val_main_v0 (F := Ideal) x0 (ix4 n c a b) = pic (fun c t l => x0 (ix4 n c t l)) c ((a : ℕ) - 1) ((b : ℕ) - 1) := by
  pointwise [val_main_v0, val_main_call0_v0, val_main_c]
  exact padded (fun c t l => x0 (ix4 n c t l)) c a b _ zero_word

/-- The second padded picture at an index. -/
theorem pad2_apply (c : Fin 128) (a b : Fin 226) :
    val_main_v54 (F := Ideal) x0 x1 (ix4 n c a b)
      = pic (fun c t l => val_main_v53 (F := Ideal) x0 x1 (ix4 n c t l)) c ((a : ℕ) - 1) ((b : ℕ) - 1) := by
  unfold val_main_v54
  generalize val_main_v53 (F := Ideal) x0 x1 = y
  pointwise [val_main_call1_v0, val_main_c_0]
  exact padded (fun c t l => y (ix4 n c t l)) c a b _ zero_word

/-- The third padded picture at an index. -/
theorem pad3_apply (c : Fin 128) (a b : Fin 226) :
    val_main_v108 (F := Ideal) x0 x1 x2 (ix4 n c a b)
      = pic (fun c t l => val_main_v107 (F := Ideal) x0 x1 x2 (ix4 n c t l)) c ((a : ℕ) - 1) ((b : ℕ) - 1) := by
  unfold val_main_v108
  generalize val_main_v107 (F := Ideal) x0 x1 x2 = y
  pointwise [val_main_call2_v0, val_main_c_1]
  exact padded (fun c t l => y (ix4 n c t l)) c a b _ zero_word

/-- The first convolution is its nine taps added up. -/
theorem conv1_nine : val_main_v53 (F := Ideal) x0 x1 = nine (tap1 (val_main_v0 (F := Ideal) x0) x1) := rfl

/-- The second convolution is its nine taps added up. -/
theorem conv2_nine : val_main_v107 (F := Ideal) x0 x1 x2 = nine (tap2 (val_main_v54 (F := Ideal) x0 x1) x2) := rfl

/-- The third convolution is its nine taps added up. -/
theorem conv3_nine : val_main_v161 (F := Ideal) x0 x1 x2 x3 = nine (tap3 (val_main_v108 (F := Ideal) x0 x1 x2) x3) := rfl

/-- The planes of one picture of the batch. -/
def input : Plane 64 := pic fun c t l => x0 (ix4 n c t l)

/-- The first convolution's planes. -/
def mid1 : Plane 128 := conv (fun o c dy dx => x1 (ix4 o c dy dx)) (framed (input x0 n))

/-- The second convolution's planes. -/
def mid2 : Plane 128 := conv (fun o c dy dx => x2 (ix4 o c dy dx)) (framed (mid1 x0 x1 n))

/-- The third convolution's planes. -/
def last : Plane 64 := conv (fun o c dy dx => x3 (ix4 o c dy dx)) (framed (mid2 x0 x1 x2 n))

/-- The host's first convolution at an index. -/
theorem first_apply (o : Fin 128) (t l : Fin 224) :
    val_main_v53 (F := Ideal) x0 x1 (ix4 n o t l) = mid1 x0 x1 n o (t : ℕ) (l : ℕ) := by
  rw [conv1_nine, nine_apply]
  exact sum_taps _ _ (fun c a b => val_main_v0 (F := Ideal) x0 (ix4 n c a b))
    (fun c a b => (pad1_apply x0 n c a b).trans (by rw [input, framed_pic])) _ o t l
    fun dy dx => tap1_apply n t l dy dx _ _ o

/-- The host's second convolution at an index. -/
theorem second_apply (o : Fin 128) (t l : Fin 224) :
    val_main_v107 (F := Ideal) x0 x1 x2 (ix4 n o t l) = mid2 x0 x1 x2 n o (t : ℕ) (l : ℕ) := by
  rw [conv2_nine, nine_apply]
  exact sum_taps _ _ (fun c a b => val_main_v54 (F := Ideal) x0 x1 (ix4 n c a b))
    (fun c a b => (pad2_apply x0 x1 n c a b).trans (by rw [pic_eq_framed _ _ (first_apply x0 x1 n)])) _ o t l
    fun dy dx => tap2_apply n t l dy dx _ _ o

/-- The host's third convolution at an index. -/
theorem third_apply (o : Fin 64) (t l : Fin 224) :
    val_main_v161 (F := Ideal) x0 x1 x2 x3 (ix4 n o t l) = last x0 x1 x2 x3 n o (t : ℕ) (l : ℕ) := by
  rw [conv3_nine, nine_apply]
  exact sum_taps _ _ (fun c a b => val_main_v108 (F := Ideal) x0 x1 x2 (ix4 n c a b))
    (fun c a b => (pad3_apply x0 x1 x2 n c a b).trans (by rw [pic_eq_framed _ _ (second_apply x0 x1 x2 n)])) _ o t l
    fun dy dx => tap3_apply n t l dy dx _ _ o

/-- The reference's result array is the three convolutions in a row of its arguments. -/
theorem reference_eq : val_main_v161 (F := Ideal) x0 x1 x2 x3 = result x0 x1 x2 x3 := by
  funext y
  have hy : y = ix4 (y 0 : Fin 16) (y 1 : Fin 64) (y 2 : Fin 224) (y 3 : Fin 224) := by
    funext a; fin_cases a <;> rfl
  exact (congrArg (val_main_v161 (F := Ideal) x0 x1 x2 x3) hy).trans (third_apply x0 x1 x2 x3 _ _ _ _)

end

end Cert.Conv.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Array
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The kernel, as printed, runs to the end, leaves its arguments unchanged and every counter at zero. -/
theorem frame_kernel : Cert.quiescent_Kernel (hKernel := Cert.Kernel.Gen.facts) :=
  fun m g _ => Cert.Kernel.Gen.frame m g

/-- The kernel over exact numbers runs to the end, leaves its arguments unchanged and every counter at zero. -/
theorem frame_kernelIdeal : Cert.quiescent_KernelIdeal (hKernelIdeal := Cert.KernelIdeal.Gen.facts) :=
  fun m g _ => Cert.KernelIdeal.Gen.frame m g

/-- The reference over exact numbers runs to the end and leaves its arguments unchanged; it has no counter. -/
theorem frame_referenceIdeal : Cert.quiescent_ReferenceIdeal (hReferenceIdeal := Cert.ReferenceIdeal.Gen.facts) :=
  fun m g _ => (θ_run (Cert.ReferenceIdeal.defs (F := Ideal)) _ _).mono
    (fun r h => ⟨fun c => (h c).2, sem_eq_zero_of_no_sems (by decide) r.2⟩)
    (Cert.ReferenceIdeal.Value.run (F := Ideal) m g)

/-- From memories agreeing on the four arguments the kernel and the reference, over exact numbers, end with the
    same result array: the three convolutions in a row. -/
theorem same_result : Cert.algebraic_KernelIdeal_ReferenceIdeal (hKernelIdeal := Cert.KernelIdeal.Gen.facts)
    (hReferenceIdeal := Cert.ReferenceIdeal.Gen.facts) := by
  intro m g m' g' _ hagree
  refine ⟨fun c => Cert.Conv.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run (Cert.KernelIdeal.defs (F := Ideal)) _ _).mono
      (fun r h c => ⟨(h c).1.trans (Cert.Conv.array_eq m c), (h c).2⟩) (Cert.KernelIdeal.Value.run_blocks m g)
  · refine (θ_run (Cert.ReferenceIdeal.defs (F := Ideal)) _ _).mono (fun r h c => ⟨(h c).1.trans ?_, (h c).2⟩)
      (Cert.ReferenceIdeal.Value.run (F := Ideal) m' g')
    obtain ⟨h0, h1, h2, h3⟩ := hagree c
    refine (Cert.ReferenceIdeal.Read.val_main_v161_eq (F := Ideal) _).trans ?_
    refine (Cert.Conv.Ref.reference_eq _ _ _ _).trans ?_
    rw [StableHlo.launchContents_devRef, StableHlo.launchContents_devRef, StableHlo.launchContents_devRef,
      StableHlo.launchContents_devRef, h0, h1, h2, h3]

/-- Every claim of the certificate. -/
theorem claim : Cert.Claim := ⟨Cert.Kernel.Gen.facts, Cert.KernelIdeal.Gen.facts, Cert.ReferenceIdeal.Gen.facts,
  frame_kernel, frame_kernelIdeal, frame_referenceIdeal, trivial, same_result⟩

end Cert.Proof

end
